-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_valid : Cert.Pre_valid.Facts),
    quiescent_Kernel (hKernel := hKernel) (hPre_in_range := hPre_in_range)
    ∧ quiescent_KernelIdeal (hKernelIdeal := hKernelIdeal) (hPre_in_range := hPre_in_range)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_in_range.lean ====
abbrev S1x128 : Shape := ⟨2, ![1, 128]⟩
abbrev S16385 : Shape := ⟨1, ![16385]⟩
abbrev S2686976 : Shape := ⟨1, ![2686976]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S2686976 : S_.BroadcastsInDim S2686976 (![] : Fin 0 → Fin S2686976.rank)
  reducesTo_S2686976_S_d0 : S2686976.ReducesTo [0] S_

variable [Facts]

def fn {F : FTy → Type} [FloatOps F] (main_arg0 : IVec S1x128 32) (main_arg1 : FVec F S1x128 .f32) (main_arg2 : IVec S16385 32) (main_arg3 : IVec S2686976 32) (main_arg4 : FVec F S2686976 .f32) : IVec S_ 1 :=
  let main_c : IVec S_ 32 := constantI S_ 32 0#32
  let main_v0 : IVec S1x128 32 := broadcastInDim S1x128 ![] bcast_S_S1x128 main_c
  let main_v1 : IVec S1x128 1 := cmpi .sge main_arg0 main_v0
  let main_c_0 : IVec S_ 32 := constantI S_ 32 16384#32
  let main_v2 : IVec S1x128 32 := broadcastInDim S1x128 ![] bcast_S_S1x128 main_c_0
  let main_v3 : IVec S1x128 1 := cmpi .slt main_arg0 main_v2
  let main_v4 : IVec S1x128 1 := andi main_v1 main_v3
  let main_c_1 : IVec S_ 1 := constantI S_ 1 1#1
  let main_v5 : IVec S_ 1 := (fun x v => Host.reduce IntOp.andi x v reducesTo_S1x128_S_d0_1 h_S_) main_v4 main_c_1
  let main_c_2 : IVec S_ 32 := constantI S_ 32 0#32
  let main_v6 : IVec S2686976 32 := broadcastInDim S2686976 ![] bcast_S_S2686976 main_c_2
  let main_v7 : IVec S2686976 1 := cmpi .sge main_arg3 main_v6
  let main_c_3 : IVec S_ 32 := constantI S_ 32 16384#32
  let main_v8 : IVec S2686976 32 := broadcastInDim S2686976 ![] bcast_S_S2686976 main_c_3
  let main_v9 : IVec S2686976 1 := cmpi .slt main_arg3 main_v8
  let main_v10 : IVec S2686976 1 := andi main_v7 main_v9
  let main_c_4 : IVec S_ 1 := constantI S_ 1 1#1
  let main_v11 : IVec S_ 1 := (fun x v => Host.reduce IntOp.andi x v reducesTo_S2686976_S_d0 h_S_) main_v10 main_c_4
  let main_v12 : IVec S_ 1 := andi main_v5 main_v11
  main_v12
-- ==== Pre_valid.lean ====
abbrev S1x128 : Shape := ⟨2, ![1, 128]⟩
abbrev S16385 : Shape := ⟨1, ![16385]⟩
abbrev S2686976 : Shape := ⟨1, ![2686976]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S2686976 : S_.BroadcastsInDim S2686976 (![] : Fin 0 → Fin S2686976.rank)
  reducesTo_S2686976_S_d0 : S2686976.ReducesTo [0] S_
  bcast_S_S16385 : S_.BroadcastsInDim S16385 (![] : Fin 0 → Fin S16385.rank)
  reducesTo_S16385_S_d0 : S16385.ReducesTo [0] S_

variable [Facts]

def fn_part1 {F : FTy → Type} [FloatOps F] (main_arg1 : FVec F S1x128 .f32) (main_arg4 : FVec F S2686976 .f32) (main_v12 : IVec S_ 1) (main_v16 : IVec S16385 1) : IVec S_ 1 :=
  let main_c_6 : IVec S_ 1 := constantI S_ 1 1#1
  let main_v17 : IVec S_ 1 := (fun x v => Host.reduce IntOp.andi x v reducesTo_S16385_S_d0 h_S_) main_v16 main_c_6
  let main_v18 : IVec S_ 1 := andi main_v12 main_v17
  let main_v19 : FVec F S1x128 .f32 := Host.absf main_arg1
  let main_cst : FVec F S_ .f32 := constant S_ .f32 0x7F800000#32
  let main_v20 : FVec F S1x128 .f32 := broadcastInDim S1x128 ![] bcast_S_S1x128 main_cst
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S2686976 .f32 := Host.absf main_arg4
  let main_cst_8 : FVec F S_ .f32 := constant S_ .f32 0x7F800000#32
  let main_v25 : FVec F S2686976 .f32 := broadcastInDim S2686976 ![] bcast_S_S2686976 main_cst_8
  let main_v26 : IVec S2686976 1 := cmpf .olt main_v24 main_v25
  let main_c_9 : IVec S_ 1 := constantI S_ 1 1#1
  let main_v27 : IVec S_ 1 := (fun x v => Host.reduce IntOp.andi x v reducesTo_S2686976_S_d0 h_S_) main_v26 main_c_9
  let main_v28 : IVec S_ 1 := andi main_v23 main_v27
  main_v28

def fn {F : FTy → Type} [FloatOps F] (main_arg0 : IVec S1x128 32) (main_arg1 : FVec F S1x128 .f32) (main_arg2 : IVec S16385 32) (main_arg3 : IVec S2686976 32) (main_arg4 : FVec F S2686976 .f32) : IVec S_ 1 :=
  let main_c : IVec S_ 32 := constantI S_ 32 0#32
  let main_v0 : IVec S1x128 32 := broadcastInDim S1x128 ![] bcast_S_S1x128 main_c
  let main_v1 : IVec S1x128 1 := cmpi .sge main_arg0 main_v0
  let main_c_0 : IVec S_ 32 := constantI S_ 32 16384#32
  let main_v2 : IVec S1x128 32 := broadcastInDim S1x128 ![] bcast_S_S1x128 main_c_0
  let main_v3 : IVec S1x128 1 := cmpi .slt main_arg0 main_v2
  let main_v4 : IVec S1x128 1 := andi main_v1 main_v3
  let main_c_1 : IVec S_ 1 := constantI S_ 1 1#1
  let main_v5 : IVec S_ 1 := (fun x v => Host.reduce IntOp.andi x v reducesTo_S1x128_S_d0_1 h_S_) main_v4 main_c_1
  let main_c_2 : IVec S_ 32 := constantI S_ 32 0#32
  let main_v6 : IVec S2686976 32 := broadcastInDim S2686976 ![] bcast_S_S2686976 main_c_2
  let main_v7 : IVec S2686976 1 := cmpi .sge main_arg3 main_v6
  let main_c_3 : IVec S_ 32 := constantI S_ 32 16384#32
  let main_v8 : IVec S2686976 32 := broadcastInDim S2686976 ![] bcast_S_S2686976 main_c_3
  let main_v9 : IVec S2686976 1 := cmpi .slt main_arg3 main_v8
  let main_v10 : IVec S2686976 1 := andi main_v7 main_v9
  let main_c_4 : IVec S_ 1 := constantI S_ 1 1#1
  let main_v11 : IVec S_ 1 := (fun x v => Host.reduce IntOp.andi x v reducesTo_S2686976_S_d0 h_S_) main_v10 main_c_4
  let main_v12 : IVec S_ 1 := andi main_v5 main_v11
  let main_v13 : IVec S16385 32 := iotaInDim S16385 32 0
  let main_c_5 : IVec S_ 32 := constantI S_ 32 164#32
  let main_v14 : IVec S16385 32 := broadcastInDim S16385 ![] bcast_S_S16385 main_c_5
  let main_v15 : IVec S16385 32 := muli main_v13 main_v14
  let main_v16 : IVec S16385 1 := cmpi .eq main_arg2 main_v15
  fn_part1 (F := F) main_arg1 main_arg4 main_v12 main_v16
-- ==== Kernel.lean ====
abbrev S1x128 : Shape := ⟨2, ![1, 128]⟩
abbrev S16385 : Shape := ⟨1, ![16385]⟩
abbrev S2686976 : Shape := ⟨1, ![2686976]⟩
abbrev S128 : Shape := ⟨1, ![128]⟩
abbrev S16384 : Shape := ⟨1, ![16384]⟩
abbrev S20992 : Shape := ⟨1, ![20992]⟩
abbrev S512 : Shape := ⟨1, ![512]⟩
abbrev S_ : Shape := ⟨0, ![]⟩
abbrev S16 : Shape := ⟨1, ![16]⟩
abbrev S128x128 : Shape := ⟨2, ![128, 128]⟩
abbrev S10 : Shape := ⟨1, ![10]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S1x10 : Shape := ⟨2, ![1, 10]⟩

abbrev nBuf : Table → Nat
  | .hbm => 11
  | .local .tc .vmem => 3
  | .local .scVector .vmem => 8
  | _ => 0

abbrev bufTy : (tb : Table) → Fin (nBuf tb) → BufTy
  | .hbm, ⟨0, _⟩ => ⟨S1x128, .i32⟩
  | .hbm, ⟨1, _⟩ => ⟨S1x128, .f32⟩
  | .hbm, ⟨2, _⟩ => ⟨S16385, .i32⟩
  | .hbm, ⟨3, _⟩ => ⟨S2686976, .i32⟩
  | .hbm, ⟨4, _⟩ => ⟨S2686976, .f32⟩
  | .hbm, ⟨5, _⟩ => ⟨S128, .i32⟩
  | .hbm, ⟨6, _⟩ => ⟨S128, .f32⟩
  | .hbm, ⟨7, _⟩ => ⟨S16384, .f32⟩
  | .hbm, ⟨8, _⟩ => ⟨S128x128, .f32⟩
  | .hbm, ⟨9, _⟩ => ⟨S10, .f32⟩
  | .hbm, ⟨10, _⟩ => ⟨S10, .i32⟩
  | .local .tc .vmem, ⟨0, _⟩ => ⟨S128x128, .f32⟩
  | .local .tc .vmem, ⟨1, _⟩ => ⟨S10, .f32⟩
  | .local .tc .vmem, ⟨2, _⟩ => ⟨S10, .i32⟩
  | .local .scVector .vmem, ⟨0, _⟩ => ⟨S16384, .f32⟩
  | .local .scVector .vmem, ⟨1, _⟩ => ⟨S128, .i32⟩
  | .local .scVector .vmem, ⟨2, _⟩ => ⟨S128, .f32⟩
  | .local .scVector .vmem, ⟨3, _⟩ => ⟨S20992, .i32⟩
  | .local .scVector .vmem, ⟨4, _⟩ => ⟨S20992, .i32⟩
  | .local .scVector .vmem, ⟨5, _⟩ => ⟨S20992, .f32⟩
  | .local .scVector .vmem, ⟨6, _⟩ => ⟨S20992, .f32⟩
  | .local .scVector .vmem, ⟨7, _⟩ => ⟨S512, .f32⟩
  | _, _ => ⟨S1x128, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v0_scv : Ref sig .scVector := ⟨.hbm, 5, rfl⟩
abbrev main_v1_scv : Ref sig .scVector := ⟨.hbm, 6, rfl⟩
abbrev main_arg3_scv : Ref sig .scVector := ⟨.hbm, 3, rfl⟩
abbrev main_arg4_scv : Ref sig .scVector := ⟨.hbm, 4, rfl⟩
abbrev main_v2_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c164_i32 : BitVec 32 := 164#32
  let v3 : BitVec 32 := Scalar.muli v2 c164_i32
  let v6 : BitVec 32 := Scalar.addi v3 c0_i32
  ![v6.toNat]
@[reducible] def k0_t1_loop : Scf.Loop 32 :=
  let c0_i32_0 : BitVec 32 := 0#32
  let c1024_i32 : BitVec 32 := 1024#32
  let v16 : BitVec 32 := Scalar.addi c0_i32_0 c1024_i32
  let c1_i32 : BitVec 32 := 1#32
  ⟨c0_i32_0, v16, c1_i32⟩
def k0_off2 (k0_t1 : Fin k0_t1_loop.trips) : Fin 1 → Nat :=
  let c0_i32_0 : BitVec 32 := 0#32
  let c1_i32 : BitVec 32 := 1#32
  let arg17 : BitVec 32 := Scf.iv c0_i32_0 c1_i32 k0_t1
  let c16_i32 : BitVec 32 := 16#32
  let v54 : BitVec 32 := Scalar.muli arg17 c16_i32
  let v55 : Index := Scalar.indexCast v54
  ![v55.toNat]
@[reducible] def k0_t2_loop : Scf.Loop 32 :=
  let c0_i32_2 : BitVec 32 := 0#32
  let c8_i32 : BitVec 32 := 8#32
  let v17 : BitVec 32 := Scalar.addi c0_i32_2 c8_i32
  let c1_i32_3 : BitVec 32 := 1#32
  ⟨c0_i32_2, v17, c1_i32_3⟩
def k0_off3 (k0_t2 : Fin k0_t2_loop.trips) : Fin 1 → Nat :=
  let c0_i32_2 : BitVec 32 := 0#32
  let c1_i32_3 : BitVec 32 := 1#32
  let arg17 : BitVec 32 := Scf.iv c0_i32_2 c1_i32_3 k0_t2
  let c16_i32 : BitVec 32 := 16#32
  let v54 : BitVec 32 := Scalar.muli arg17 c16_i32
  let v55 : Index := Scalar.indexCast v54
  ![v55.toNat]

def k0_chk1 (v56 : IVec S16 32) : Prop :=
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a) ∧
  (∀ a x, ((![v56] : Fin 1 → IVec S16 32) a x).toNat < S16384.size a)
theorem k0_idx1_inb : ∀ (v56 : IVec S16 32) (k0_hw1 : k0_chk1 v56), ∀ a x, ((![v56] : Fin 1 → IVec S16 32) a x).toNat < S16384.size a := fun v56 k0_hw1 => k0_hw1.1
theorem k0_idx2_inb : ∀ (v56 : IVec S16 32) (k0_hw1 : k0_chk1 v56), ∀ a x, ((![v56] : Fin 1 → IVec S16 32) a x).toNat < S16384.size a := fun v56 k0_hw1 => k0_hw1.2.1
theorem k0_idx3_inb : ∀ (v56 : IVec S16 32) (k0_hw1 : k0_chk1 v56), ∀ a x, ((![v56] : Fin 1 → IVec S16 32) a x).toNat < S16384.size a := fun v56 k0_hw1 => k0_hw1.2.2.1
theorem k0_idx4_inb : ∀ (v56 : IVec S16 32) (k0_hw1 : k0_chk1 v56), ∀ a x, ((![v56] : Fin 1 → IVec S16 32) a x).toNat < S16384.size a := fun v56 k0_hw1 => k0_hw1.2.2.2.1
theorem k0_idx5_inb : ∀ (v56 : IVec S16 32) (k0_hw1 : k0_chk1 v56), ∀ a x, ((![v56] : Fin 1 → IVec S16 32) a x).toNat < S16384.size a := fun v56 k0_hw1 => k0_hw1.2.2.2.2.1
theorem k0_idx6_inb : ∀ (v56 : IVec S16 32) (k0_hw1 : k0_chk1 v56), ∀ a x, ((![v56] : Fin 1 → IVec S16 32) a x).toNat < S16384.size a := fun v56 k0_hw1 => k0_hw1.2.2.2.2.2.1
theorem k0_idx7_inb : ∀ (v56 : IVec S16 32) (k0_hw1 : k0_chk1 v56), ∀ a x, ((![v56] : Fin 1 → IVec S16 32) a x).toNat < S16384.size a := fun v56 k0_hw1 => k0_hw1.2.2.2.2.2.2.1
theorem k0_idx8_inb : ∀ (v56 : IVec S16 32) (k0_hw1 : k0_chk1 v56), ∀ a x, ((![v56] : Fin 1 → IVec S16 32) a x).toNat < S16384.size a := fun v56 k0_hw1 => k0_hw1.2.2.2.2.2.2.2.1
theorem k0_idx9_inb : ∀ (v56 : IVec S16 32) (k0_hw1 : k0_chk1 v56), ∀ a x, ((![v56] : Fin 1 → IVec S16 32) a x).toNat < S16384.size a := fun v56 k0_hw1 => k0_hw1.2.2.2.2.2.2.2.2.1
theorem k0_idx10_inb : ∀ (v56 : IVec S16 32) (k0_hw1 : k0_chk1 v56), ∀ a x, ((![v56] : Fin 1 → IVec S16 32) a x).toNat < S16384.size a := fun v56 k0_hw1 => k0_hw1.2.2.2.2.2.2.2.2.2.1
theorem k0_idx11_inb : ∀ (v56 : IVec S16 32) (k0_hw1 : k0_chk1 v56), ∀ a x, ((![v56] : Fin 1 → IVec S16 32) a x).toNat < S16384.size a := fun v56 k0_hw1 => k0_hw1.2.2.2.2.2.2.2.2.2.2.1
theorem k0_idx12_inb : ∀ (v56 : IVec S16 32) (k0_hw1 : k0_chk1 v56), ∀ a x, ((![v56] : Fin 1 → IVec S16 32) a x).toNat < S16384.size a := fun v56 k0_hw1 => k0_hw1.2.2.2.2.2.2.2.2.2.2.2.1
theorem k0_idx13_inb : ∀ (v56 : IVec S16 32) (k0_hw1 : k0_chk1 v56), ∀ a x, ((![v56] : Fin 1 → IVec S16 32) a x).toNat < S16384.size a := fun v56 k0_hw1 => k0_hw1.2.2.2.2.2.2.2.2.2.2.2.2.1
theorem k0_idx14_inb : ∀ (v56 : IVec S16 32) (k0_hw1 : k0_chk1 v56), ∀ a x, ((![v56] : Fin 1 → IVec S16 32) a x).toNat < S16384.size a := fun v56 k0_hw1 => k0_hw1.2.2.2.2.2.2.2.2.2.2.2.2.2.1
theorem k0_idx15_inb : ∀ (v56 : IVec S16 32) (k0_hw1 : k0_chk1 v56), ∀ a x, ((![v56] : Fin 1 → IVec S16 32) a x).toNat < S16384.size a := fun v56 k0_hw1 => k0_hw1.2.2.2.2.2.2.2.2.2.2.2.2.2.2.1
theorem k0_idx16_inb : ∀ (v56 : IVec S16 32) (k0_hw1 : k0_chk1 v56), ∀ a x, ((![v56] : Fin 1 → IVec S16 32) a x).toNat < S16384.size a := fun v56 k0_hw1 => k0_hw1.2.2.2.2.2.2.2.2.2.2.2.2.2.2.2
@[reducible] def k0_t3_loop : Scf.Loop 32 :=
  let c0_i32_7 : BitVec 32 := 0#32
  let c8_i32_8 : BitVec 32 := 8#32
  let v25 : BitVec 32 := Scalar.addi c0_i32_7 c8_i32_8
  let c1_i32_9 : BitVec 32 := 1#32
  ⟨c0_i32_7, v25, c1_i32_9⟩
@[reducible] def k0_t4_loop : Scf.Loop 32 :=
  let c0_i32_26 : BitVec 32 := 0#32
  let c164_i32_27 : BitVec 32 := 164#32
  let v58 : BitVec 32 := Scalar.addi c0_i32_26 c164_i32_27
  let c1_i32_28 : BitVec 32 := 1#32
  ⟨c0_i32_26, v58, c1_i32_28⟩

def k0_chk2 (arg25 : IVec S16 32) : Prop :=
  (∀ a x, ((![arg25] : Fin 1 → IVec S16 32) a x).toNat < S20992.size a) ∧
  (∀ a x, ((![arg25] : Fin 1 → IVec S16 32) a x).toNat < S20992.size a)
theorem k0_idx17_inb : ∀ (arg25 : IVec S16 32) (k0_hw2 : k0_chk2 arg25), ∀ a x, ((![arg25] : Fin 1 → IVec S16 32) a x).toNat < S20992.size a := fun arg25 k0_hw2 => k0_hw2.1
theorem k0_idx18_inb : ∀ (arg25 : IVec S16 32) (k0_hw2 : k0_chk2 arg25), ∀ a x, ((![arg25] : Fin 1 → IVec S16 32) a x).toNat < S20992.size a := fun arg25 k0_hw2 => k0_hw2.2

def k0_chk3 (v69 : IVec S16 32) : Prop :=
  (∀ a x, ((![v69] : Fin 1 → IVec S16 32) a x).toNat < S16384.size a)
theorem k0_idx19_inb : ∀ (v69 : IVec S16 32) (k0_hw3 : k0_chk3 v69), ∀ a x, ((![v69] : Fin 1 → IVec S16 32) a x).toNat < S16384.size a := fun v69 k0_hw3 => k0_hw3
def k0_off4 (k0_t3 : Fin k0_t3_loop.trips) : Fin 1 → Nat :=
  let c0_i32_30 : BitVec 32 := 0#32
  let c0_i32_7 : BitVec 32 := 0#32
  let c1_i32_9 : BitVec 32 := 1#32
  let arg17 : BitVec 32 := Scf.iv c0_i32_7 c1_i32_9 k0_t3
  let c16_i32 : BitVec 32 := 16#32
  let v65 : BitVec 32 := Scalar.muli arg17 c16_i32
  let v66 : BitVec 32 := Scalar.addi c0_i32_30 v65
  let v67 : Index := Scalar.indexCast v66
  ![v67.toNat]
@[reducible] def k0_t5_loop : Scf.Loop 32 :=
  let c0_i32_12 : BitVec 32 := 0#32
  let c8_i32_13 : BitVec 32 := 8#32
  let v36 : BitVec 32 := Scalar.addi c0_i32_12 c8_i32_13
  let c1_i32_14 : BitVec 32 := 1#32
  ⟨c0_i32_12, v36, c1_i32_14⟩
@[reducible] def k0_t6_loop : Scf.Loop 32 :=
  let c0_i32_26 : BitVec 32 := 0#32
  let c164_i32_27 : BitVec 32 := 164#32
  let v58 : BitVec 32 := Scalar.addi c0_i32_26 c164_i32_27
  let c1_i32_28 : BitVec 32 := 1#32
  ⟨c0_i32_26, v58, c1_i32_28⟩

def k0_chk4 (arg25 : IVec S16 32) : Prop :=
  (∀ a x, ((![arg25] : Fin 1 → IVec S16 32) a x).toNat < S20992.size a) ∧
  (∀ a x, ((![arg25] : Fin 1 → IVec S16 32) a x).toNat < S20992.size a)
theorem k0_idx20_inb : ∀ (arg25 : IVec S16 32) (k0_hw4 : k0_chk4 arg25), ∀ a x, ((![arg25] : Fin 1 → IVec S16 32) a x).toNat < S20992.size a := fun arg25 k0_hw4 => k0_hw4.1
theorem k0_idx21_inb : ∀ (arg25 : IVec S16 32) (k0_hw4 : k0_chk4 arg25), ∀ a x, ((![arg25] : Fin 1 → IVec S16 32) a x).toNat < S20992.size a := fun arg25 k0_hw4 => k0_hw4.2

def k0_chk5 (v69 : IVec S16 32) : Prop :=
  (∀ a x, ((![v69] : Fin 1 → IVec S16 32) a x).toNat < S16384.size a)
theorem k0_idx22_inb : ∀ (v69 : IVec S16 32) (k0_hw5 : k0_chk5 v69), ∀ a x, ((![v69] : Fin 1 → IVec S16 32) a x).toNat < S16384.size a := fun v69 k0_hw5 => k0_hw5
def k0_off5 (k0_t5 : Fin k0_t5_loop.trips) : Fin 1 → Nat :=
  let c128_i32 : BitVec 32 := 128#32
  let c0_i32_12 : BitVec 32 := 0#32
  let c1_i32_14 : BitVec 32 := 1#32
  let arg17 : BitVec 32 := Scf.iv c0_i32_12 c1_i32_14 k0_t5
  let c16_i32 : BitVec 32 := 16#32
  let v65 : BitVec 32 := Scalar.muli arg17 c16_i32
  let v66 : BitVec 32 := Scalar.addi c128_i32 v65
  let v67 : Index := Scalar.indexCast v66
  ![v67.toNat]
@[reducible] def k0_t7_loop : Scf.Loop 32 :=
  let c0_i32_17 : BitVec 32 := 0#32
  let c8_i32_18 : BitVec 32 := 8#32
  let v47 : BitVec 32 := Scalar.addi c0_i32_17 c8_i32_18
  let c1_i32_19 : BitVec 32 := 1#32
  ⟨c0_i32_17, v47, c1_i32_19⟩
@[reducible] def k0_t8_loop : Scf.Loop 32 :=
  let c0_i32_26 : BitVec 32 := 0#32
  let c164_i32_27 : BitVec 32 := 164#32
  let v58 : BitVec 32 := Scalar.addi c0_i32_26 c164_i32_27
  let c1_i32_28 : BitVec 32 := 1#32
  ⟨c0_i32_26, v58, c1_i32_28⟩

def k0_chk6 (arg25 : IVec S16 32) : Prop :=
  (∀ a x, ((![arg25] : Fin 1 → IVec S16 32) a x).toNat < S20992.size a) ∧
  (∀ a x, ((![arg25] : Fin 1 → IVec S16 32) a x).toNat < S20992.size a)
theorem k0_idx23_inb : ∀ (arg25 : IVec S16 32) (k0_hw6 : k0_chk6 arg25), ∀ a x, ((![arg25] : Fin 1 → IVec S16 32) a x).toNat < S20992.size a := fun arg25 k0_hw6 => k0_hw6.1
theorem k0_idx24_inb : ∀ (arg25 : IVec S16 32) (k0_hw6 : k0_chk6 arg25), ∀ a x, ((![arg25] : Fin 1 → IVec S16 32) a x).toNat < S20992.size a := fun arg25 k0_hw6 => k0_hw6.2

def k0_chk7 (v69 : IVec S16 32) : Prop :=
  (∀ a x, ((![v69] : Fin 1 → IVec S16 32) a x).toNat < S16384.size a)
theorem k0_idx25_inb : ∀ (v69 : IVec S16 32) (k0_hw7 : k0_chk7 v69), ∀ a x, ((![v69] : Fin 1 → IVec S16 32) a x).toNat < S16384.size a := fun v69 k0_hw7 => k0_hw7
def k0_off6 (k0_t7 : Fin k0_t7_loop.trips) : Fin 1 → Nat :=
  let c256_i32 : BitVec 32 := 256#32
  let c0_i32_17 : BitVec 32 := 0#32
  let c1_i32_19 : BitVec 32 := 1#32
  let arg17 : BitVec 32 := Scf.iv c0_i32_17 c1_i32_19 k0_t7
  let c16_i32 : BitVec 32 := 16#32
  let v65 : BitVec 32 := Scalar.muli arg17 c16_i32
  let v66 : BitVec 32 := Scalar.addi c256_i32 v65
  let v67 : Index := Scalar.indexCast v66
  ![v67.toNat]
@[reducible] def k0_t9_loop : Scf.Loop 32 :=
  let c0_i32_22 : BitVec 32 := 0#32
  let c8_i32_23 : BitVec 32 := 8#32
  let v53 : BitVec 32 := Scalar.addi c0_i32_22 c8_i32_23
  let c1_i32_24 : BitVec 32 := 1#32
  ⟨c0_i32_22, v53, c1_i32_24⟩
@[reducible] def k0_t10_loop : Scf.Loop 32 :=
  let c0_i32_26 : BitVec 32 := 0#32
  let c164_i32_27 : BitVec 32 := 164#32
  let v58 : BitVec 32 := Scalar.addi c0_i32_26 c164_i32_27
  let c1_i32_28 : BitVec 32 := 1#32
  ⟨c0_i32_26, v58, c1_i32_28⟩

def k0_chk8 (arg25 : IVec S16 32) : Prop :=
  (∀ a x, ((![arg25] : Fin 1 → IVec S16 32) a x).toNat < S20992.size a) ∧
  (∀ a x, ((![arg25] : Fin 1 → IVec S16 32) a x).toNat < S20992.size a)
theorem k0_idx26_inb : ∀ (arg25 : IVec S16 32) (k0_hw8 : k0_chk8 arg25), ∀ a x, ((![arg25] : Fin 1 → IVec S16 32) a x).toNat < S20992.size a := fun arg25 k0_hw8 => k0_hw8.1
theorem k0_idx27_inb : ∀ (arg25 : IVec S16 32) (k0_hw8 : k0_chk8 arg25), ∀ a x, ((![arg25] : Fin 1 → IVec S16 32) a x).toNat < S20992.size a := fun arg25 k0_hw8 => k0_hw8.2

def k0_chk9 (v69 : IVec S16 32) : Prop :=
  (∀ a x, ((![v69] : Fin 1 → IVec S16 32) a x).toNat < S16384.size a)
theorem k0_idx28_inb : ∀ (v69 : IVec S16 32) (k0_hw9 : k0_chk9 v69), ∀ a x, ((![v69] : Fin 1 → IVec S16 32) a x).toNat < S16384.size a := fun v69 k0_hw9 => k0_hw9
def k0_off7 (k0_t9 : Fin k0_t9_loop.trips) : Fin 1 → Nat :=
  let c384_i32 : BitVec 32 := 384#32
  let c0_i32_22 : BitVec 32 := 0#32
  let c1_i32_24 : BitVec 32 := 1#32
  let arg17 : BitVec 32 := Scf.iv c0_i32_22 c1_i32_24 k0_t9
  let c16_i32 : BitVec 32 := 16#32
  let v65 : BitVec 32 := Scalar.muli arg17 c16_i32
  let v66 : BitVec 32 := Scalar.addi c384_i32 v65
  let v67 : Index := Scalar.indexCast v66
  ![v67.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x128 : Shape := ⟨2, ![1, 128]⟩
abbrev S16385 : Shape := ⟨1, ![16385]⟩
abbrev S2686976 : Shape := ⟨1, ![2686976]⟩
abbrev S_ : Shape := ⟨0, ![]⟩
abbrev S16384 : Shape := ⟨1, ![16384]⟩
abbrev S128 : Shape := ⟨1, ![128]⟩
abbrev S128x1 : Shape := ⟨2, ![128, 1]⟩
abbrev S16385x1 : Shape := ⟨2, ![16385, 1]⟩
abbrev S1x2686976 : Shape := ⟨2, ![1, 2686976]⟩
abbrev S16385x2686976 : Shape := ⟨2, ![16385, 2686976]⟩
abbrev S2686976x1 : Shape := ⟨2, ![2686976, 1]⟩
abbrev S1 : Shape := ⟨1, ![1]⟩
abbrev S1x1 : Shape := ⟨2, ![1, 1]⟩
abbrev S10 : Shape := ⟨1, ![10]⟩

abbrev nBuf : Space → Nat
  | .hbm => 59
  | .vmem => 0
  | .smem => 0
  | _ => 0

abbrev bufTy : (tb : Table) → Fin (tcTables nBuf tb) → BufTy
  | .hbm, ⟨0, _⟩ => ⟨S1x128, .i32⟩
  | .hbm, ⟨1, _⟩ => ⟨S1x128, .f32⟩
  | .hbm, ⟨2, _⟩ => ⟨S16385, .i32⟩
  | .hbm, ⟨3, _⟩ => ⟨S2686976, .i32⟩
  | .hbm, ⟨4, _⟩ => ⟨S2686976, .f32⟩
  | .hbm, ⟨5, _⟩ => ⟨S_, .f32⟩
  | .hbm, ⟨6, _⟩ => ⟨S16384, .f32⟩
  | .hbm, ⟨7, _⟩ => ⟨S128, .i32⟩
  | .hbm, ⟨8, _⟩ => ⟨S128, .f32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S128x1, .i32⟩
  | .hbm, ⟨17, _⟩ => ⟨S16384, .f32⟩
  | .hbm, ⟨18, _⟩ => ⟨S2686976, .i32⟩
  | .hbm, ⟨19, _⟩ => ⟨S16385x1, .i32⟩
  | .hbm, ⟨20, _⟩ => ⟨S1x2686976, .i32⟩
  | .hbm, ⟨21, _⟩ => ⟨S16385x2686976, .i32⟩
  | .hbm, ⟨22, _⟩ => ⟨S16385x2686976, .i32⟩
  | .hbm, ⟨23, _⟩ => ⟨S16385x2686976, .i1⟩
  | .hbm, ⟨24, _⟩ => ⟨S16385x2686976, .i32⟩
  | .hbm, ⟨25, _⟩ => ⟨S_, .i32⟩
  | .hbm, ⟨26, _⟩ => ⟨S2686976, .i32⟩
  | .hbm, ⟨27, _⟩ => ⟨S_, .i32⟩
  | .hbm, ⟨28, _⟩ => ⟨S2686976, .i32⟩
  | .hbm, ⟨29, _⟩ => ⟨S2686976, .i32⟩
  | .hbm, ⟨30, _⟩ => ⟨S_, .i32⟩
  | .hbm, ⟨31, _⟩ => ⟨S2686976, .i32⟩
  | .hbm, ⟨32, _⟩ => ⟨S2686976, .i1⟩
  | .hbm, ⟨33, _⟩ => ⟨S_, .i32⟩
  | .hbm, ⟨34, _⟩ => ⟨S2686976, .i32⟩
  | .hbm, ⟨35, _⟩ => ⟨S2686976, .i32⟩
  | .hbm, ⟨36, _⟩ => ⟨S2686976, .i32⟩
  | .hbm, ⟨37, _⟩ => ⟨S2686976x1, .i32⟩
  | .hbm, ⟨38, _⟩ => ⟨S1, .i32⟩
  | .hbm, ⟨39, _⟩ => ⟨S_, .i32⟩
  | .hbm, ⟨40, _⟩ => ⟨S2686976x1, .i32⟩
  | .hbm, ⟨41, _⟩ => ⟨S2686976x1, .i1⟩
  | .hbm, ⟨42, _⟩ => ⟨S1x1, .i32⟩
  | .hbm, ⟨43, _⟩ => ⟨S2686976x1, .i32⟩
  | .hbm, ⟨44, _⟩ => ⟨S2686976x1, .i1⟩
  | .hbm, ⟨45, _⟩ => ⟨S2686976x1, .i1⟩
  | .hbm, ⟨46, _⟩ => ⟨S_, .i1⟩
  | .hbm, ⟨47, _⟩ => ⟨S2686976, .i1⟩
  | .hbm, ⟨48, _⟩ => ⟨S2686976, .f32⟩
  | .hbm, ⟨49, _⟩ => ⟨S_, .f32⟩
  | .hbm, ⟨50, _⟩ => ⟨S2686976, .f32⟩
  | .hbm, ⟨51, _⟩ => ⟨S2686976, .f32⟩
  | .hbm, ⟨52, _⟩ => ⟨S2686976, .f32⟩
  | .hbm, ⟨53, _⟩ => ⟨S_, .f32⟩
  | .hbm, ⟨54, _⟩ => ⟨S16384, .f32⟩
  | .hbm, ⟨55, _⟩ => ⟨S2686976x1, .i32⟩
  | .hbm, ⟨56, _⟩ => ⟨S16384, .f32⟩
  | .hbm, ⟨57, _⟩ => ⟨S10, .f32⟩
  | .hbm, ⟨58, _⟩ => ⟨S10, .i32⟩
  | _, _ => ⟨S1x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_cst : Ref sig .tc := ⟨.hbm, 49, rfl⟩
abbrev main_call0_v14 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_values : Ref sig .tc := ⟨.hbm, 57, rfl⟩
abbrev main_indices : Ref sig .tc := ⟨.hbm, 58, rfl⟩

abbrev nD : Nat := 1
abbrev τ : Topo := Topo.v7x

variable {F : FTy → Type} [FloatOps F]
-- ==== Proof.Values.lean ====
/-
  The values of the score kernel, as plain functions of the operands' elements: the query table after its first `n`
  additions (`qTab`), a document's score as the six rotating accumulators leave it (`docScore`), and the closed forms
  of the index vectors the inner loop carries (`posV`, `offV`). Everything here is over any float interpretation.
-/
module

public import proofs.«01_k».proof.Defs
public import Idealize.ShloMosaic.Lib.SparseCore.Ops
public import proofs.«01_k».proof.Proof.Gen.KernelIdeal
public import proofs.«01_k».proof.Proof.Gen.KernelIdeal.Skeleton

@[expose] public section

set_option maxRecDepth 16384

noncomputable section

namespace Cert.Proof.Sc

open Cert.KernelIdeal Cert.KernelIdeal.Gen
open Idealize.ShloMosaic

variable {F : FTy → Type} [FloatOps F]

/-! ## Elements by number -/

/-- Element `k` of an array of one axis, the number taken modulo its length. -/
def at1 (n : ℕ) (hn : 0 < n) (k : ℕ) : (⟨1, ![n]⟩ : Shape).Idx := fun a => ⟨k % n, by
  match a with
  | 0 => exact Nat.mod_lt _ hn⟩

abbrev iQ (k : ℕ) : S128.Idx := at1 128 (by decide) k
abbrev iT (k : ℕ) : S16384.Idx := at1 16384 (by decide) k
abbrev iN (k : ℕ) : S2686976.Idx := at1 2686976 (by decide) k
abbrev iC (k : ℕ) : S20992.Idx := at1 20992 (by decide) k

theorem at1_val (n : ℕ) (hn : 0 < n) (k : ℕ) (h : k < n) (a : Fin 1) : (at1 n hn k a).val = k := Nat.mod_eq_of_lt h

theorem ext1 {n : ℕ} {i j : (⟨1, ![n]⟩ : Shape).Idx} (h : (i 0).val = (j 0).val) : i = j := by
  funext a
  match a with
  | 0 => exact Fin.ext h

theorem eq_at1 {n : ℕ} (hn : 0 < n) (i : (⟨1, ![n]⟩ : Shape).Idx) : i = at1 n hn (i 0).val :=
  ext1 (Nat.mod_eq_of_lt (i 0).isLt).symm

theorem lt16 (x : S16.Idx) : (x 0).val < 16 := (x 0).isLt

/-! ## The query table -/

/-- The query table after the first `n` of its additions: `qv j` added into cell `ix j`, in order, from zero. -/
def qTab (ixs : S128.Idx → BitVec 32) (qv : S128.Idx → F .f32) : ℕ → S16384.Idx → F .f32
  | 0 => fun _ => FloatOps.ofBits .f32 0#32
  | n + 1 => fun j => if (j 0).val = (ixs (iQ n)).toNat then Elt.idxAdd (F := F) .f32 (qTab ixs qv n j) (qv (iQ n)) else qTab ixs qv n j

theorem foldl_onehot {α β : Type} [DecidableEq α] (step : β → α → β) (u : β → β) (l : α) :
    ∀ (xs : List α) (_ : xs.Nodup) (_ : ∀ g k, step g k = if k = l then u g else g) (g : β),
      xs.foldl step g = if l ∈ xs then u g else g
  | [], _, _, g => by simp
  | a :: xs, hn, hs, g => by
    have hn' := List.nodup_cons.mp hn
    rw [List.foldl_cons, foldl_onehot step u l xs hn'.2 hs, hs]
    by_cases e : a = l
    · subst e
      simp [hn'.1]
    · have e' : l ≠ a := fun h => e h.symm
      simp [e, e']

/-- A store of one lane: the mask set at lane `l` alone. -/
theorem storeIdx_onehot (f : Vec F S16384 .f32) (ix : IVec S16 32) (v : Vec F S16 .f32) (mask : IVec S16 1)
    (h : ∀ a x, ((![ix] : Fin S16384.rank → IVec S16 32) a x).toNat < S16384.size a) (l : Fin 16)
    (hm : ∀ k : Fin 16, mask (Shape.ofLane (d := ![16]) k) = 1 ↔ k = l) :
    storeIdx f ![ix] v mask true h = fun j => if (j 0).val = (ix (Shape.ofLane (d := ![16]) l)).toNat
      then Elt.idxAdd (F := F) .f32 (f j) (v (Shape.ofLane (d := ![16]) l)) else f j := by
  unfold storeIdx
  refine (foldl_onehot (α := Fin 16) (β := S16384.Idx → F .f32) _ (fun g j => if (j 0).val = (ix (Shape.ofLane (d := ![16]) l)).toNat
      then Elt.idxAdd (F := F) .f32 (g j) (v (Shape.ofLane (d := ![16]) l)) else g j) l (List.finRange 16) (List.nodup_finRange _) ?_ f).trans ?_
  · intro g k
    by_cases e : k = l
    · subst e
      simp only [(hm k).mpr rfl, ↓reduceIte]
      funext j
      by_cases hj : (j 0).val = (ix (Shape.ofLane (d := ![16]) k)).toNat
      · have hji : j = idxAt (s := S16384) ![ix] h (Shape.ofLane (d := ![16]) k) := ext1 hj
        rw [if_pos hj, if_pos (fun a => by rw [← hji]), ← hji]
      · rw [if_neg hj, if_neg (fun hh => hj (hh 0))]
    · have hk : ¬ mask (Shape.ofLane (d := ![16]) k) = 1 := fun hh => e ((hm k).mp hh)
      simp only [hk, e, ↓reduceIte]
  · rw [if_pos (List.mem_finRange _)]

/-- The mask of the store of lane `l`. -/
def laneMask (l : ℕ) : IVec S16 1 := cmpi .eq (iota .scVector S16 32 [0] iota_S16_d0_w32_scVector) (broadcast S16 (BitVec.ofNat 32 l))

theorem iota_apply (x : S16.Idx) : iota .scVector S16 32 [0] iota_S16_d0_w32_scVector x = BitVec.ofNat 32 (x 0).val := by
  show BitVec.ofNat 32 (0 * 16 + (x 0).val) = _
  rw [Nat.zero_mul, Nat.zero_add]

theorem laneMask_onehot (l : Fin 16) (k : Fin 16) : laneMask l.val (Shape.ofLane (d := ![16]) k) = 1 ↔ k = l := by
  show BitVec.ofBool (iota .scVector S16 32 [0] iota_S16_d0_w32_scVector (Shape.ofLane (d := ![16]) k) == BitVec.ofNat 32 l.val) = 1 ↔ k = l
  rw [iota_apply]
  show BitVec.ofBool (BitVec.ofNat 32 k.val == BitVec.ofNat 32 l.val) = 1 ↔ k = l
  revert k l
  decide

/-- One more of the additions, as the masked store makes it. -/
theorem storeIdx_qTab (ixs : S128.Idx → BitVec 32) (qv : S128.Idx → F .f32) (t : ℕ) (l : Fin 16) (ix : IVec S16 32) (v : Vec F S16 .f32)
    (h : ∀ a x, ((![ix] : Fin S16384.rank → IVec S16 32) a x).toNat < S16384.size a)
    (hix : ∀ x, ix x = ixs (iQ (16 * t + (x 0).val))) (hv : ∀ x, v x = qv (iQ (16 * t + (x 0).val))) :
    storeIdx (F := F) (e := .f32) (qTab ixs qv (16 * t + l.val)) ![ix] v (laneMask l.val) true h = qTab ixs qv (16 * t + (l.val + 1)) := by
  rw [storeIdx_onehot _ _ _ _ _ l (laneMask_onehot l), hix, hv]
  rfl

/-! ## The accumulators -/

/-- Six accumulators taken in turn: each step adds its term to the first and rotates. -/
def accs {α : Type} (add : α → α → α) (z : α) (t : ℕ → α) : ℕ → α × α × α × α × α × α
  | 0 => (z, z, z, z, z, z)
  | k + 1 => let a := accs add z t k; (a.2.1, a.2.2.1, a.2.2.2.1, a.2.2.2.2.1, a.2.2.2.2.2, add a.1 (t k))

/-- The six accumulators' total, as the kernel adds them up. -/
def comb {α : Type} (add : α → α → α) (a : α × α × α × α × α × α) : α :=
  add (add (add a.1 a.2.1) (add a.2.2.1 a.2.2.2.1)) (add a.2.2.2.2.1 a.2.2.2.2.2)

theorem accs_apply {ι α : Type} (add : α → α → α) (z : α) (t : ℕ → ι → α) (x : ι) : ∀ k,
    accs add z (fun k => t k x) k =
      (let a := accs (fun u v : ι → α => fun i => add (u i) (v i)) (fun _ => z) t k
       (a.1 x, a.2.1 x, a.2.2.1 x, a.2.2.2.1 x, a.2.2.2.2.1 x, a.2.2.2.2.2 x))
  | 0 => rfl
  | k + 1 => by
    simp only [accs]
    rw [accs_apply add z t x k]

theorem comb_apply {ι α : Type} (add : α → α → α) (z : α) (t : ℕ → ι → α) (x : ι) (k : ℕ) :
    comb (fun u v : ι → α => fun i => add (u i) (v i)) (accs (fun u v : ι → α => fun i => add (u i) (v i)) (fun _ => z) t k) x
      = comb add (accs add z (fun k => t k x) k) := by
  rw [accs_apply]
  rfl

/-- Term `k` of document `D`'s sum: its nonzeros are read from its `D % 16`th on, around. -/
def docTerm (qd : S16384.Idx → F .f32) (col : S2686976.Idx → BitVec 32) (cv : S2686976.Idx → F .f32) (D k : ℕ) : F .f32 :=
  FloatOps.mulf (cv (iN (D * 164 + (D % 16 + k) % 164))) (qd (iT (col (iN (D * 164 + (D % 16 + k) % 164))).toNat))

/-- Document `D`'s score. -/
def docScore (qd : S16384.Idx → F .f32) (col : S2686976.Idx → BitVec 32) (cv : S2686976.Idx → F .f32) (D : ℕ) : F .f32 :=
  comb FloatOps.addf (accs FloatOps.addf (FloatOps.ofBits .f32 0#32) (docTerm qd col cv D) 164)

/-! ## The index vectors the inner loop carries -/

/-- Where in its row lane `x` reads at step `k`. -/
def offV (k : ℕ) : IVec S16 32 := fun x => BitVec.ofNat 32 (((x 0).val + k) % 164)
/-- Where in the chunk lane `x` of group `g` reads at step `k`. -/
def posV (g k : ℕ) : IVec S16 32 := fun x => BitVec.ofNat 32 ((16 * g + (x 0).val) * 164 + ((x 0).val + k) % 164)

theorem posV_toNat (g k : ℕ) (hg : g < 8) (x : S16.Idx) : (posV g k x).toNat = (16 * g + (x 0).val) * 164 + ((x 0).val + k) % 164 := by
  have := lt16 x
  have : (16 * g + (x 0).val) * 164 + ((x 0).val + k) % 164 < 20992 := by
    have := Nat.mod_lt ((x 0).val + k) (show 0 < 164 by decide)
    omega
  simp only [posV, BitVec.toNat_ofNat]
  omega

theorem posV_lt (g k : ℕ) (hg : g < 8) (x : S16.Idx) : (posV g k x).toNat < 20992 := by
  rw [posV_toNat g k hg]
  have := lt16 x
  have := Nat.mod_lt ((x 0).val + k) (show 0 < 164 by decide)
  omega

theorem ofBool_eq_one (b : Bool) : (BitVec.ofBool b = 1) ↔ b = true := by cases b <;> decide

theorem pay22_offV (k : ℕ) (x : S16.Idx) : k0_pay22 (offV k) x = 1 ↔ ((x 0).val + k) % 164 = 163 := by
  show BitVec.ofBool (BitVec.ofNat 32 (((x 0).val + k) % 164) + 1#32 == 164#32) = 1 ↔ _
  rw [ofBool_eq_one, beq_iff_eq]
  have := Nat.mod_lt ((x 0).val + k) (show 0 < 164 by decide)
  generalize ((x 0).val + k) % 164 = n at *
  rw [← BitVec.toNat_inj]
  simp only [BitVec.toNat_add, BitVec.toNat_ofNat]
  omega

theorem mod_next (n : ℕ) : (n + 1) % 164 = if n % 164 = 163 then 0 else n % 164 + 1 := by
  split <;> omega

theorem pay23_offV (k : ℕ) : k0_pay23 (offV k) = offV (k + 1) := by
  funext x
  show (if k0_pay22 (offV k) x = 1 then 0#32 else BitVec.ofNat 32 (((x 0).val + k) % 164) + 1#32) = BitVec.ofNat 32 (((x 0).val + (k + 1)) % 164)
  simp only [pay22_offV, ← Nat.add_assoc, mod_next ((x 0).val + k)]
  split
  · rfl
  · rw [← BitVec.ofNat_add]

theorem pay24_posV (g k : ℕ) (hg : g < 8) : k0_pay24 (posV g k) (offV k) = posV g (k + 1) := by
  funext x
  show (if k0_pay22 (offV k) x = 1 then BitVec.ofNat 32 ((16 * g + (x 0).val) * 164 + ((x 0).val + k) % 164) + 1#32 - 164#32
    else BitVec.ofNat 32 ((16 * g + (x 0).val) * 164 + ((x 0).val + k) % 164) + 1#32)
      = BitVec.ofNat 32 ((16 * g + (x 0).val) * 164 + ((x 0).val + (k + 1)) % 164)
  simp only [pay22_offV, ← Nat.add_assoc, mod_next ((x 0).val + k)]
  have := lt16 x
  have := Nat.mod_lt ((x 0).val + k) (show 0 < 164 by decide)
  generalize ((x 0).val + k) % 164 = n at *
  split <;> rw [← BitVec.toNat_inj] <;> simp only [BitVec.toNat_add, BitVec.toNat_sub, BitVec.toNat_ofNat] <;> omega

theorem pay20_posV (g : Fin k0_t3_loop.trips) : k0_pay20 g = posV g.val 0 := by
  funext x
  have hg : g.val < 8 := g.isLt
  have := lt16 x
  show iota .scVector S16 32 [0] iota_S16_d0_w32_scVector x * 164#32 + (0#32 + BitVec.ofNat 32 g.val * 1#32) * 2624#32
      + iota .scVector S16 32 [0] iota_S16_d0_w32_scVector x = _
  rw [iota_apply, posV, Nat.add_zero, Nat.mod_eq_of_lt (show (x 0).val < 164 by omega), ← BitVec.toNat_inj]
  simp only [BitVec.toNat_add, BitVec.toNat_mul, BitVec.toNat_ofNat]
  omega

theorem iota_offV : iota .scVector S16 32 [0] iota_S16_d0_w32_scVector = offV 0 := by
  funext x
  rw [iota_apply]
  have := lt16 x
  rw [offV, Nat.add_zero, Nat.mod_eq_of_lt (by omega)]

end Cert.Proof.Sc

end
-- ==== Proof.Setup.lean ====
/-
  The launch of the score kernel, set up: the program as the launch theorem sees it, the ghost state (the handshakes'
  rounds, the second kernel's staging rounds, the transfers' counters), the arrays' locations, and what the one
  SparseCore call carries: a share of the query's indices and values, of the collection's columns and values for each
  subcore, and each subcore's own 512 elements of the scores, brought back at the scores' own values.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.KernelIdeal.Launch

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the second kernel's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev cLoc (d : Dev nD) : Loc nD τ sig := (SparseCore.T d).loc main_arg3
abbrev wLoc (d : Dev nD) : Loc nD τ sig := (SparseCore.T d).loc main_arg4
abbrev iLoc (d : Dev nD) : Loc nD τ sig := (SparseCore.T d).loc main_v0
abbrev vLoc (d : Dev nD) : Loc nD τ sig := (SparseCore.T d).loc main_v1
abbrev oLoc (d : Dev nD) : Loc nD τ sig := (SparseCore.T d).loc main_v2
abbrev sLoc (d : Dev nD) : Loc nD τ sig := (SparseCore.T d).loc main_v3
abbrev tLoc (d : Dev nD) : Loc nD τ sig := (SparseCore.T d).loc main_v4_0
abbrev uLoc (d : Dev nD) : Loc nD τ sig := (SparseCore.T d).loc main_v4_1

/-- The scores' 32 blocks of 512, a subcore's each. -/
theorem odiv : 32 ∣ S16384.size 0 := ⟨512, rfl⟩
abbrev orow (i : Fin 32) : Rect S16384 := Rect.part (s := S16384) (a₀ := 0) odiv i
abbrev oRowSet (i : Fin 32) : Finset S16384.Idx := ((Memref.whole main_v2_scv : Memref sig .scVector .hbm S16384 .f32).view.slice (orow i)).set

/-- Subcore `s` of SparseCore `c` takes block `2s + c`. -/
def blk (c : Fin 2) (s : Fin 16) : Fin 32 := ⟨2 * s.val + c.val, by omega⟩

/-- SparseCore `c`'s share of an operand, and its subcore `s`'s share of that. -/
abbrev coreSh (c : Fin 2) : PosShare TreeShare := Transfers.dealOf fullShare Finset.univ c
abbrev subSh (c : Fin 2) (s : Fin 16) : PosShare TreeShare := Transfers.dealOf (coreSh c) Finset.univ s

variable [FloatOps F]

/-! ## The values -/

/-- The query's indices and values, as the operands reshaped hold them. -/
abbrev qi (d : Dev nD) : Buf (Elt F) (iLoc d) := shapeCast S128 (m (a0Loc d)) shapeCasts_S1x128_S128
abbrev qv (d : Dev nD) : Buf (Elt F) (vLoc d) := shapeCast S128 (m (a1Loc d)) shapeCasts_S1x128_S128

/-- The query table. -/
abbrev qd (d : Dev nD) : S16384.Idx → F .f32 := qTab (F := F) (qi m d) (qv m d) 128
/-- The scores, whole. -/
def G (d : Dev nD) : Buf (Elt F) (oLoc d) := fun j => docScore (F := F) (qd m d) (m (cLoc d)) (m (wLoc d)) (j 0).val

/-! ## What the handshakes carry -/

abbrev inPts (d : Dev nD) (q : PosShare TreeShare) : sProp 𝕄 :=
  iprop((iLoc d ↦{q} qi m d) ∗ (vLoc d ↦{q} qv m d) ∗ (cLoc d ↦{q} m (cLoc d)) ∗ (wLoc d ↦{q} m (wLoc d)))
abbrev oRowPts (d : Dev nD) (i : Fin 32) (f : Buf (Elt F) (oLoc d)) : sProp 𝕄 := oLoc d ↦[oRowSet i]{fullShare} f
abbrev coreRows (d : Dev nD) (c : Fin 2) (f : Buf (Elt F) (oLoc d)) : sProp 𝕄 :=
  bigSep Finset.univ fun s : Fin 16 => oRowPts d (blk c s) f

/-- The one call: each SparseCore its share of the four inputs and its subcores' blocks of the scores, each subcore its
    share of that share and its block; the blocks come back at the scores. -/
def P : (K (F := F)).Pay (nD := nD) (Val := Elt F) (Name := ℕ) (U := UU) where
  st := fun q d c => match q with
    | 0 => iprop(inPts m d (coreSh (Fin.cast nCore_zero c)) ∗ coreRows d (Fin.cast nCore_zero c) (m (oLoc d)))
  dn := fun q d c => match q with
    | 0 => iprop(inPts m d (coreSh (Fin.cast nCore_zero c)) ∗ coreRows d (Fin.cast nCore_zero c) (G m d))
  go := fun q d c i => match q with
    | 0 => iprop(inPts m d (subSh (Fin.cast nCore_zero c) (Fin.cast nSub_zero i))
        ∗ oRowPts d (blk (Fin.cast nCore_zero c) (Fin.cast nSub_zero i)) (m (oLoc d)))
  td := fun q d c i => match q with
    | 0 => iprop(inPts m d (subSh (Fin.cast nCore_zero c) (Fin.cast nSub_zero i))
        ∗ oRowPts d (blk (Fin.cast nCore_zero c) (Fin.cast nSub_zero i)) (G m d))
  x := fun _ _ => iprop(emp)

instance P_storable : (P (F := F) m).IsStorable where
  st q d c := match q with
    | 0 => (inferInstance : BI.Storable (upEmb : UEmb _ 𝕄)
      iprop(inPts m d (coreSh (Fin.cast nCore_zero c)) ∗ coreRows d (Fin.cast nCore_zero c) (m (oLoc d))))
  dn q d c := match q with
    | 0 => (inferInstance : BI.Storable (upEmb : UEmb _ 𝕄)
      iprop(inPts m d (coreSh (Fin.cast nCore_zero c)) ∗ coreRows d (Fin.cast nCore_zero c) (G m d)))
  go q d c i := match q with
    | 0 => (inferInstance : BI.Storable (upEmb : UEmb _ 𝕄)
      iprop(inPts m d (subSh (Fin.cast nCore_zero c) (Fin.cast nSub_zero i))
        ∗ oRowPts d (blk (Fin.cast nCore_zero c) (Fin.cast nSub_zero i)) (m (oLoc d))))
  td q d c i := match q with
    | 0 => (inferInstance : BI.Storable (upEmb : UEmb _ 𝕄)
      iprop(inPts m d (subSh (Fin.cast nCore_zero c) (Fin.cast nSub_zero i))
        ∗ oRowPts d (blk (Fin.cast nCore_zero c) (Fin.cast nSub_zero i)) (G m d)))

/-- What the proof asks of the launch memory: every index of the query and every column of the collection is below
    16384. The certificate's preconditions say so. -/
def PreOK : Prop := (∀ (d : Dev nD) (j : S1x128.Idx), (m (a0Loc d) j).toNat < 16384) ∧ ∀ (d : Dev nD) (j : S2686976.Idx), (m (cLoc d) j).toNat < 16384

end Cert.Proof.Sc

end
-- ==== Proof.Loops.lean ====
/-
  The score kernel's loops on one vector subcore: the inner dot-product loop at a symbolic trip (`wp_dot`), a group of
  sixteen documents (`wp_grp`), a chunk of eight groups (`wp_chunk`) — stated once over the chunk's two buffers and the
  place in the output it fills, so that the kernel's four chunk loops are four uses of it —, the clearing of the query
  table (`wp_clear`) and one masked addition into it (`wp_st`).
-/
module

public import proofs.«01_k».proof.Proof.Setup
public import Idealize.ShloMosaic.Lib.Pipeline.ValueKit.Geometry

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The subcore's thread. -/
abbrev thr (d : Dev nD) (L : grid0.Coords) : Thread nD τ := V d (cV L) (jV L)

variable (d : Dev nD) (L : grid0.Coords)

/-- A step of the kernel's programs on the subcore. -/
abbrev WP {α : Type} (p : Prog (TpuEff nD τ sig (Elt F) Λ₀ (.scVector ((L 0).castLE hcore0) ((L 1).castLE hsub0))) α) (Q : α → sProp 𝕄) : sProp 𝕄 :=
  wp frame (wpE (defs₀ (F := F)) 𝒱₀ (thr d L) none) Set.univ p Q

/-- An indexed load through a buffer held whole, at contents that read as `g`. -/
theorem wp_ld {s t : Shape} {e : EltTy} {α : Type} {base : Memref sig .scVector .vmem s e} {idxs : Fin s.rank → IVec t 32}
    {h : ∀ a x, (idxs a x).toNat < s.size a} {hl : base.view.Loads}
    {k : Vec F t e → Prog (TpuEff nD τ sig (Elt F) Λ₀ (.scVector ((L 0).castLE hcore0) ((L 1).castLE hsub0))) α} {Q : α → sProp 𝕄}
    {q : PosShare TreeShare} {f : Buf (Elt F) (base.view.loc (thr d L))} (g : Vec F s e)
    (hg : (base.access (.whole s)).read (Elt F) f = g) :
    (base.view.loc (thr d L) ↦{q} f : sProp 𝕄)
      ⊢ iprop(((base.view.loc (thr d L) ↦{q} f) -∗ WP d L (k (loadIdx (F := F) (e := e) g idxs h)) Q)
        -∗ WP d L (SparseCore.vectorLoadIdx (F := F) base idxs h hl >>= k) Q) := by
  subst hg
  exact SparseCore.wp_vectorLoadIdx (F := F) 𝒱₀ (thr d L) none Set.univ (base := base) (Finset.subset_univ _)

/-- A check that passes. -/
theorem wp_as {α : Type} {p : Prop} {dd : Decidable p} {k : PLift p → Prog (TpuEff nD τ sig (Elt F) Λ₀ (.scVector ((L 0).castLE hcore0) ((L 1).castLE hsub0))) α}
    {Q : α → sProp 𝕄} (h : p) : WP d L (k ⟨h⟩) Q ⊢ WP d L (.op (.assume p dd) k) Q :=
  wp_assume 𝒱₀ (thr d L) none Set.univ h

/-- The eight values the inner loop carries. -/
abbrev T8 (F : FTy → Type) : Type := FVec F S16 .f32 × FVec F S16 .f32 × FVec F S16 .f32 × FVec F S16 .f32 × FVec F S16 .f32 × FVec F S16 .f32 × IVec S16 32 × IVec S16 32

/-- The inner loop's step over the chunk's two buffers and the query table. -/
def dotBody (cb : Memref sig .scVector .vmem S20992 .i32) (vb : Memref sig .scVector .vmem S20992 .f32) (tb : Memref sig .scVector .vmem S16384 .f32) :
    Fin k0_t4_loop.trips → T8 F → Prog (TpuEff nD τ sig (Elt F) Λ₀ (.scVector ((L 0).castLE hcore0) ((L 1).castLE hsub0))) (T8 F) :=
  fun _ (arg19, arg20, arg21, arg22, arg23, arg24, arg25, arg26) => do
    have k0_hw2 : k0_chk2 arg25 := (← Prog.lift (TpuEff.assume (k0_chk2 arg25) (k0_chk2.dec arg25))).down
    let v69 : Vec F S16 .i32 ← SparseCore.vectorLoadIdx cb ![arg25] (k0_idx17_inb arg25 k0_hw2) (View.loads_vmem h_S20992)
    have k0_hw3 : k0_chk3 v69 := (← Prog.lift (TpuEff.assume (k0_chk3 v69) (k0_chk3.dec v69))).down
    let v70 : Vec F S16 .f32 ← SparseCore.vectorLoadIdx vb ![arg25] (k0_idx18_inb arg25 k0_hw2) (View.loads_vmem h_S20992)
    let v71 : Vec F S16 .f32 ← SparseCore.vectorLoadIdx tb ![v69] (k0_idx19_inb v69 k0_hw3) (View.loads_vmem h_S16384)
    pure (arg20, arg21, arg22, arg23, arg24, k0_pay25 arg19 v70 v71, k0_pay24 arg25 arg26, k0_pay23 arg26)

/-- One lane's term at step `k` of group `g`, from the chunk's columns and values and the query table. -/
def tm (fc : S20992.Idx → BitVec 32) (fv : S20992.Idx → F .f32) (ft : S16384.Idx → F .f32) (g k : ℕ) (x : S16.Idx) : F .f32 :=
  FloatOps.mulf (fv (iC ((16 * g + (x 0).val) * 164 + ((x 0).val + k) % 164))) (ft (iT (fc (iC ((16 * g + (x 0).val) * 164 + ((x 0).val + k) % 164))).toNat))

/-- What the inner loop carries after `k` steps of group `g`. -/
def carry (fc : S20992.Idx → BitVec 32) (fv : S20992.Idx → F .f32) (ft : S16384.Idx → F .f32) (g k : ℕ) : T8 F :=
  let a := accs (α := FVec F S16 .f32) addf (k0_pay14 (F := F)) (tm fc fv ft g) k
  (a.1, a.2.1, a.2.2.1, a.2.2.2.1, a.2.2.2.2.1, a.2.2.2.2.2, posV g k, offV k)

/-- Sixteen more elements in place, the elements numbered by `pos`. -/
theorem store16 {sp : Space} (v : View sig .scVector sp S16 .f32) (pos : v.ty.Idx → ℕ) (hinj : ∀ i j, pos i = pos j → i = j)
    (H f : v.ty.Contents (Elt F)) (w : S16.Idx → F .f32) (n : ℕ) (hemb : ∀ x : S16.Idx, pos (v.emb x) = n + (x 0).val)
    (hf : ∀ i, pos i < n → f i = H i) (hw : ∀ x : S16.Idx, _root_.cast (congrArg (Elt F) v.elt_eq.symm) (w x) = H (v.emb x)) :
    ∀ i, pos i < n + 16 → v.write (Elt F) f w Finset.univ i = H i := by
  intro i hi
  by_cases h : pos i < n
  · rw [View.write_of_not_mem, hf i h]
    rw [View.setOn_univ]
    intro hm
    obtain ⟨x, -, hx⟩ := Finset.mem_map.mp hm
    have h2 := hemb x
    rw [hx] at h2
    omega
  · have hlt : pos i - n < 16 := by omega
    obtain ⟨x, hx⟩ : ∃ x : S16.Idx, (x 0).val = pos i - n := ⟨at1 16 (by decide) (pos i - n), Nat.mod_eq_of_lt hlt⟩
    have hxi : v.emb x = i := hinj _ _ ((hemb x).trans (by omega))
    rw [← hxi, View.write_emb_of_mem _ _ (Finset.mem_univ x)]
    exact hw x

section Dot

variable (cb : Memref sig .scVector .vmem S20992 .i32) (vb : Memref sig .scVector .vmem S20992 .f32) (tb : Memref sig .scVector .vmem S16384 .f32)
  (bc : Buf (Elt F) (cb.view.loc (thr d L))) (bv : Buf (Elt F) (vb.view.loc (thr d L))) (bt : Buf (Elt F) (tb.view.loc (thr d L)))
  (fc : S20992.Idx → BitVec 32) (fv : S20992.Idx → F .f32) (ft : S16384.Idx → F .f32)
  (hc : (cb.access (.whole S20992)).read (Elt F) bc = fc) (hv : (vb.access (.whole S20992)).read (Elt F) bv = fv)
  (ht : (tb.access (.whole S16384)).read (Elt F) bt = ft)

/-- The three buffers, held whole. -/
abbrev bufs3 : sProp 𝕄 := iprop((cb.view.loc (thr d L) ↦{fullShare} bc) ∗ (vb.view.loc (thr d L) ↦{fullShare} bv) ∗ (tb.view.loc (thr d L) ↦{fullShare} bt))

include hc hv ht in
/-- One step of the inner loop. -/
theorem dot_step (hcol : ∀ i, (fc i).toNat < 16384) (g : ℕ) (hg : g < 8) (k : Fin k0_t4_loop.trips) :
    bufs3 d L cb vb tb bc bv bt
      ⊢ WP d L (dotBody L cb vb tb k (carry fc fv ft g k.val)) (fun acc => iprop(⌜acc = carry fc fv ft g (k.val + 1)⌝ ∗ bufs3 d L cb vb tb bc bv bt)) := by
  have hk : k.val < 164 := k.isLt
  have hpos : ∀ a x, ((![posV g k.val] : Fin S20992.rank → IVec S16 32) a x).toNat < S20992.size a := fun a x => by
    match a with
    | 0 => exact posV_lt g k.val hg x
  have hat : ∀ x, idxAt (s := S20992) ![posV g k.val] hpos x = iC ((16 * g + (x 0).val) * 164 + ((x 0).val + k.val) % 164) := fun x => by
    rw [eq_at1 (n := 20992) (by decide) (idxAt (s := S20992) ![posV g k.val] hpos x)]
    exact congrArg iC (posV_toNat g k.val hg x)
  have hcols : ∀ a x, ((![loadIdx (F := F) (e := .i32) fc ![posV g k.val] hpos] : Fin S16384.rank → IVec S16 32) a x).toNat < S16384.size a := fun a x => by
    match a with
    | 0 => exact hcol _
  iintro ⟨Hc, Hv, Ht⟩
  simp only [carry, dotBody, Prog.lift, Prog.bind_op, Prog.bind_ret, Prog.pure_eq_ret]
  iapply (wp_as d L (show k0_chk2 (posV g k.val) from ⟨hpos, hpos⟩))
  iapply (wp_ld d L (base := cb) fc hc) $$ Hc
  iintro Hc
  iapply (wp_as d L (show k0_chk3 (loadIdx (F := F) (e := .i32) fc ![posV g k.val] hpos) from hcols))
  iapply (wp_ld d L (base := vb) fv hv) $$ Hv
  iintro Hv
  iapply (wp_ld d L (base := tb) ft ht) $$ Ht
  iintro Ht
  unfold WP
  rw [wp_ret]
  imodintro
  isplitr
  · ipureintro
    have hterm : k0_pay25 (accs addf k0_pay14 (tm fc fv ft g) k.val).1 (loadIdx (F := F) (e := .f32) fv ![posV g k.val] hpos)
          (loadIdx (F := F) (e := .f32) ft ![loadIdx (F := F) (e := .i32) fc ![posV g k.val] hpos] hcols)
        = addf (accs addf k0_pay14 (tm fc fv ft g) k.val).1 (tm fc fv ft g k.val) := by
      funext x
      refine congrArg (FloatOps.addf _) ?_
      show FloatOps.mulf (fv (idxAt (s := S20992) ![posV g k.val] hpos x)) (ft (idxAt (s := S16384) _ hcols x)) = _
      rw [hat x, tm, eq_at1 (n := 16384) (by decide) (idxAt (s := S16384) _ hcols x)]
      refine congrArg (fun i => FloatOps.mulf _ (ft (iT i))) ?_
      show (fc (idxAt (s := S20992) ![posV g k.val] hpos x)).toNat = _
      rw [hat x]
    rw [hterm, pay24_posV g _ hg, pay23_offV]
    rfl
  · isplitl [Hc]; · iexact Hc
    isplitl [Hv]; · iexact Hv
    iexact Ht

/-- The whole inner loop at the head of a program: it leaves the carried values after 164 steps. -/
theorem wp_dot (hcol : ∀ i, (fc i).toNat < 16384) (g : ℕ) (hg : g < 8) {β : Type}
    {kk : T8 F → Prog (TpuEff nD τ sig (Elt F) Λ₀ (.scVector ((L 0).castLE hcore0) ((L 1).castLE hsub0))) β} {Q : β → sProp 𝕄}
    (hc : (cb.access (.whole S20992)).read (Elt F) bc = fc) (hv : (vb.access (.whole S20992)).read (Elt F) bv = fv)
    (ht : (tb.access (.whole S16384)).read (Elt F) bt = ft) :
    bufs3 d L cb vb tb bc bv bt
      ⊢ iprop((bufs3 d L cb vb tb bc bv bt -∗ WP d L (kk (carry fc fv ft g 164)) Q)
        -∗ WP d L (Scf.Loop.for k0_t4_loop k0_t4_ok (carry fc fv ft g 0) (dotBody L cb vb tb) >>= kk) Q) := by
  iintro H Hk
  iapply (Scf.wp_for_bind frame (wpE (defs₀ (F := F)) 𝒱₀ (thr d L) none) Set.univ k0_t4_loop.lb k0_t4_loop.ub k0_t4_loop.st k0_t4_ok
    (carry fc fv ft g 0) (dotBody L cb vb tb) (fun k acc => iprop(⌜acc = carry fc fv ft g k⌝ ∗ bufs3 d L cb vb tb bc bv bt)) ?_) $$ [H]
  · intro k acc
    iintro ⟨%e, H⟩
    subst e
    iapply (dot_step d L cb vb tb bc bv bt fc fv ft hc hv ht hcol g hg k) $$ H
  · isplitr
    · ipureintro; rfl
    · iexact H
  · iintro %acc ⟨%e, H⟩
    subst e
    iapply Hk $$ H

/-! ## A group of sixteen documents -/

/-- The block of scores the subcore collects. -/
abbrev obM : Memref sig .scVector .vmem S512 .f32 := Memref.whole cc0_scratch7

/-- A group: the inner loop from the accumulators at zero, then the sixteen scores stored at `off`. -/
def grpBody (off : Fin 1 → ℕ) (hoff : ∀ a : Fin 1, off a + S16.size a ≤ S512.size a) (pos : IVec S16 32) :
    Prog (TpuEff nD τ sig (Elt F) Λ₀ (.scVector ((L 0).castLE hcore0) ((L 1).castLE hsub0))) Unit := do
  let (v59_0, v59_1, v59_2, v59_3, v59_4, v59_5, v59_6, v59_7) ← Scf.Loop.for k0_t4_loop k0_t4_ok
    (k0_pay14 (F := F), k0_pay14 (F := F), k0_pay14 (F := F), k0_pay14 (F := F), k0_pay14 (F := F), k0_pay14 (F := F), pos,
      iota .scVector S16 32 [0] iota_S16_d0_w32_scVector) (dotBody L cb vb tb)
  let _v : Vec F S16 .f32 ← Prog.lift (.load obM (Rect.unit (s := S512) off S16.size hoff).toLoadRect (View.loadsAt_vmem h_S16))
  Prog.lift (.store obM (Rect.unit (s := S512) off S16.size hoff) (k0_pay26 v59_0 v59_1 v59_2 v59_3 v59_4 v59_5) Finset.univ
    (View.stores_vmem_bits_univ h_S16 rfl) (.inl rfl))
  pure ⟨⟩

/-- The collected block, its first `n` elements at `H`. -/
def obPts (H : S512.Idx → F .f32) (n : ℕ) : sProp 𝕄 :=
  iprop(∃ f : Buf (Elt F) ((obM).view.loc (thr d L)), ⌜∀ i : S512.Idx, (i 0).val < n → f i = H i⌝ ∗ ((obM).view.loc (thr d L) ↦{fullShare} f))

theorem wp_grp (hcol : ∀ i, (fc i).toNat < 16384) (g : ℕ) (hg : g < 8)
    (hc : (cb.access (.whole S20992)).read (Elt F) bc = fc) (hv : (vb.access (.whole S20992)).read (Elt F) bv = fv)
    (ht : (tb.access (.whole S16384)).read (Elt F) bt = ft)
    (H : S512.Idx → F .f32) (n : ℕ) (off : Fin 1 → ℕ) (hoff : ∀ a : Fin 1, off a + S16.size a ≤ S512.size a) (hn : off 0 = n)
    (hH : ∀ (x : S16.Idx) (i : S512.Idx), (i 0).val = n + (x 0).val →
      H i = comb FloatOps.addf (accs FloatOps.addf (FloatOps.ofBits .f32 0#32) (fun k => tm fc fv ft g k x) 164)) :
    iprop(bufs3 d L cb vb tb bc bv bt ∗ obPts d L H n)
      ⊢ WP d L (grpBody L cb vb tb off hoff (posV g 0)) (fun _ => iprop(bufs3 d L cb vb tb bc bv bt ∗ obPts d L H (n + 16))) := by
  have hw : ∀ (x : S16.Idx) (i : S512.Idx), (i 0).val = n + (x 0).val →
      k0_pay26 (carry fc fv ft g 164).1 (carry fc fv ft g 164).2.1 (carry fc fv ft g 164).2.2.1 (carry fc fv ft g 164).2.2.2.1
        (carry fc fv ft g 164).2.2.2.2.1 (carry fc fv ft g 164).2.2.2.2.2.1 x = H i := fun x i hi =>
    Eq.trans (b := comb FloatOps.addf (accs FloatOps.addf (FloatOps.ofBits .f32 0#32) (fun k => tm fc fv ft g k x) 164))
      (comb_apply (FloatOps.addf (F := F) (φ := .f32)) (FloatOps.ofBits .f32 0#32) (tm fc fv ft g) x 164) (hH x i hi).symm
  unfold grpBody obPts
  rw [iota_offV]
  iintro ⟨H3, ⟨%f, %hf, Hf⟩⟩
  iapply (wp_dot d L cb vb tb bc bv bt fc fv ft hcol g hg hc hv ht) $$ H3
  iintro H3
  simp only [carry, Prog.lift, Prog.bind_op, Prog.bind_ret, Prog.pure_eq_ret]
  iapply (wp_load 𝒱₀ (thr d L) none Set.univ (m := obM) (S := Finset.univ) (Finset.subset_univ _)) $$ Hf
  iintro Hf
  iapply (wp_store 𝒱₀ (thr d L) none Set.univ (m := obM) (r := Rect.unit (s := S512) off S16.size hoff) (Mk := Finset.univ) (S := Finset.univ) (Finset.subset_univ _)) $$ Hf
  iintro Hf
  rw [wp_ret]
  imodintro
  isplitl [H3]; · iexact H3
  iexists _
  isplitr
  · ipureintro
    have hemb : ∀ x : S16.Idx, ((((obM).access (Rect.unit (s := S512) off S16.size hoff)).emb x : S512.Idx) 0).val = n + (x 0).val := fun x =>
      (ValueKit.view_emb_slice_whole_unit_val cc0_scratch7 off S16.size hoff x 0).trans (congrArg (· + (x 0).val) hn)
    exact store16 ((obM).access (Rect.unit (s := S512) off S16.size hoff)) (fun i : S512.Idx => (i 0).val) (fun i j e => ext1 e) H f _ n hemb hf
      (fun x => hw x _ (hemb x))
  · iexact Hf

/-- The chunk's eight groups at the head of a program. -/
theorem wp_chunk (hcol : ∀ i, (fc i).toNat < 16384)
    (hc : (cb.access (.whole S20992)).read (Elt F) bc = fc) (hv : (vb.access (.whole S20992)).read (Elt F) bv = fv)
    (ht : (tb.access (.whole S16384)).read (Elt F) bt = ft)
    (H : S512.Idx → F .f32) (n : ℕ) (off : Fin k0_t3_loop.trips → Fin 1 → ℕ)
    (hoff : ∀ g, ∀ a : Fin 1, off g a + S16.size a ≤ S512.size a) (hn : ∀ g, off g 0 = n + 16 * g.val)
    (hH : ∀ (g : ℕ) (x : S16.Idx) (i : S512.Idx), g < 8 → (i 0).val = n + 16 * g + (x 0).val →
      H i = comb FloatOps.addf (accs FloatOps.addf (FloatOps.ofBits .f32 0#32) (fun k => tm fc fv ft g k x) 164))
    {β : Type} {kk : Unit → Prog (TpuEff nD τ sig (Elt F) Λ₀ (.scVector ((L 0).castLE hcore0) ((L 1).castLE hsub0))) β} {Q : β → sProp 𝕄}
    (body : Fin k0_t3_loop.trips → Unit → Prog (TpuEff nD τ sig (Elt F) Λ₀ (.scVector ((L 0).castLE hcore0) ((L 1).castLE hsub0))) Unit)
    (hb : ∀ g u, body g u = grpBody L cb vb tb (off g) (hoff g) (posV g.val 0)) :
    iprop(bufs3 d L cb vb tb bc bv bt ∗ obPts d L H n)
      ⊢ iprop((iprop(bufs3 d L cb vb tb bc bv bt ∗ obPts d L H (n + 128)) -∗ WP d L (kk ⟨⟩) Q)
        -∗ WP d L (Scf.Loop.for k0_t3_loop k0_t3_ok ⟨⟩ body >>= kk) Q) := by
  iintro H Hk
  iapply (Scf.wp_for_bind frame (wpE (defs₀ (F := F)) 𝒱₀ (thr d L) none) Set.univ k0_t3_loop.lb k0_t3_loop.ub k0_t3_loop.st k0_t3_ok
    ⟨⟩ body (fun k _ => iprop(bufs3 d L cb vb tb bc bv bt ∗ obPts d L H (n + 16 * k))) ?_) $$ [H]
  · intro k acc
    have hk : k.val < 8 := k.isLt
    rw [hb k acc, show n + 16 * (k.val + 1) = n + 16 * k.val + 16 by omega]
    exact wp_grp d L cb vb tb bc bv bt fc fv ft hcol k.val hk hc hv ht H (n + 16 * k.val) (off k) (hoff k) (hn k) (fun x i hi => hH k.val x i hk hi)
  · iexact H
  · have e8 : n + 16 * Scf.trips k0_t3_loop.lb k0_t3_loop.ub k0_t3_loop.st = n + 128 := rfl
    rw [e8]
    iintro %acc H
    iapply Hk $$ H

end Dot

/-! ## The query table -/

/-- The query table, and the query's indices and values beside it. -/
abbrev qdM : Memref sig .scVector .vmem S16384 .f32 := Memref.whole cc0_scratch0
abbrev qiM : Memref sig .scVector .vmem S128 .i32 := Memref.whole cc0_scratch1
abbrev qvM : Memref sig .scVector .vmem S128 .f32 := Memref.whole cc0_scratch2

/-- The clearing loop at the head of a program. -/
theorem wp_clear {β : Type} {kk : Unit → Prog (TpuEff nD τ sig (Elt F) Λ₀ (.scVector ((L 0).castLE hcore0) ((L 1).castLE hsub0))) β} {Q : β → sProp 𝕄}
    (body : Fin k0_t1_loop.trips → Unit → Prog (TpuEff nD τ sig (Elt F) Λ₀ (.scVector ((L 0).castLE hcore0) ((L 1).castLE hsub0))) Unit)
    (hb : ∀ t u, body t u = (do
      let _v : Vec F S16 .f32 ← Prog.lift (.load qdM (Rect.unit (s := S16384) (k0_off2 t) S16.size (k0_off2_inb t)).toLoadRect (View.loadsAt_vmem h_S16))
      Prog.lift (.store qdM (Rect.unit (s := S16384) (k0_off2 t) S16.size (k0_off2_inb t)) (k0_pay14 (F := F)) Finset.univ
        (View.stores_vmem_bits_univ h_S16 rfl) (.inl rfl))
      pure ⟨⟩)) (f0 : Buf (Elt F) ((qdM).view.loc (thr d L))) :
    ((qdM).view.loc (thr d L) ↦{fullShare} f0 : sProp 𝕄)
      ⊢ iprop((((qdM).view.loc (thr d L) ↦{fullShare} (fun _ => FloatOps.ofBits .f32 0#32 : S16384.Idx → F .f32)) -∗ WP d L (kk ⟨⟩) Q)
        -∗ WP d L (Scf.Loop.for k0_t1_loop k0_t1_ok ⟨⟩ body >>= kk) Q) := by
  iintro H Hk
  iapply (Scf.wp_for_bind frame (wpE (defs₀ (F := F)) 𝒱₀ (thr d L) none) Set.univ k0_t1_loop.lb k0_t1_loop.ub k0_t1_loop.st k0_t1_ok
    ⟨⟩ body (fun k _ => iprop(∃ f : Buf (Elt F) ((qdM).view.loc (thr d L)),
      ⌜∀ i : S16384.Idx, (i 0).val < 16 * k → f i = FloatOps.ofBits .f32 0#32⌝ ∗ ((qdM).view.loc (thr d L) ↦{fullShare} f))) ?_) $$ [H]
  · intro t u
    rw [hb t u]
    iintro ⟨%f, %hf, Hf⟩
    simp only [Prog.lift, Prog.bind_op, Prog.bind_ret, Prog.pure_eq_ret]
    iapply (wp_load 𝒱₀ (thr d L) none Set.univ (m := qdM) (S := Finset.univ) (Finset.subset_univ _)) $$ Hf
    iintro Hf
    iapply (wp_store 𝒱₀ (thr d L) none Set.univ (m := qdM) (r := Rect.unit (s := S16384) (k0_off2 t) S16.size (k0_off2_inb t)) (Mk := Finset.univ)
      (S := Finset.univ) (Finset.subset_univ _)) $$ Hf
    iintro Hf
    rw [wp_ret]
    imodintro
    iexists _
    isplitr
    · ipureintro
      have hemb : ∀ x : S16.Idx, ((((qdM).access (Rect.unit (s := S16384) (k0_off2 t) S16.size (k0_off2_inb t))).emb x : S16384.Idx) 0).val
          = 16 * t.val + (x 0).val := fun x =>
        (ValueKit.view_emb_slice_whole_unit_val cc0_scratch0 (k0_off2 t) S16.size (k0_off2_inb t) x 0).trans
          (congrArg (· + (x 0).val) (congrFun (k0_off2_eq t) 0))
      exact store16 ((qdM).access (Rect.unit (s := S16384) (k0_off2 t) S16.size (k0_off2_inb t))) (fun i : S16384.Idx => (i 0).val) (fun i j e => ext1 e)
        (fun _ => FloatOps.ofBits .f32 0#32 : S16384.Idx → F .f32) f _ (16 * t.val) hemb hf (fun x => rfl)
    · iexact Hf
  · iexists f0
    isplitr
    · ipureintro; intro i hi; omega
    · iexact H
  · have e1024 : Scf.trips k0_t1_loop.lb k0_t1_loop.ub k0_t1_loop.st = 1024 := rfl
    rw [e1024]
    iintro %acc ⟨%f, %hf, Hf⟩
    have ef : f = (fun _ => FloatOps.ofBits .f32 0#32 : S16384.Idx → F .f32) := funext fun i => hf i (i 0).isLt
    rw [ef]
    iapply Hk $$ Hf

/-- One masked addition: lane `l` of the sixteen loaded at trip `t` enters the table. -/
theorem wp_st (ixs : S128.Idx → BitVec 32) (qv : S128.Idx → F .f32) (t l : ℕ) (hl : l < 16) {α : Type} {ix : IVec S16 32} {v : Vec F S16 .f32} {mask : IVec S16 1}
    {h : ∀ a x, ((![ix] : Fin S16384.rank → IVec S16 32) a x).toNat < S16384.size a} {hs : ((qdM).access (.whole S16384)).Stores Finset.univ}
    {k : PUnit → Prog (TpuEff nD τ sig (Elt F) Λ₀ (.scVector ((L 0).castLE hcore0) ((L 1).castLE hsub0))) α} {Q : α → sProp 𝕄}
    (hm : mask = laneMask l) (hix : ∀ x, ix x = ixs (iQ (16 * t + (x 0).val))) (hv : ∀ x, v x = qv (iQ (16 * t + (x 0).val))) :
    ((qdM).view.loc (thr d L) ↦{fullShare} qTab ixs qv (16 * t + l) : sProp 𝕄)
      ⊢ iprop((((qdM).view.loc (thr d L) ↦{fullShare} qTab ixs qv (16 * t + (l + 1))) -∗ WP d L (k ⟨⟩) Q)
        -∗ WP d L (SparseCore.vectorStoreIdx (F := F) qdM ![ix] v mask true h hs >>= k) Q) := by
  subst hm
  have e := SparseCore.wp_vectorStoreIdx (F := F) (defs := defs₀ (F := F)) 𝒱₀ (thr d L) none Set.univ (base := qdM) (idxs := ![ix]) (v := v) (mask := laneMask l) (add := true)
    (h := h) (hs := hs) (k := k) (Q := Q) (f := qTab ixs qv (16 * t + l))
  rw [show ((qdM).access (Rect.whole S16384)).set = (Finset.univ : Finset S16384.Idx) from Memref.set_access_whole cc0_scratch0,
    show View.read (Elt F) ((qdM).access (Rect.whole S16384)) (qTab ixs qv (16 * t + l)) = qTab ixs qv (16 * t + l) from
      Memref.read_access_whole (Elt F) cc0_scratch0 _,
    show ∀ w : S16384.Idx → F .f32, View.write (Elt F) ((qdM).access (Rect.whole S16384)) (qTab ixs qv (16 * t + l)) w Finset.univ = w from
      fun w => Memref.write_access_whole_univ (Elt F) cc0_scratch0 _ w] at e
  have e2 := storeIdx_qTab ixs qv t ⟨l, hl⟩ ix v h hix hv
  rw [show storeIdx (F := F) (e := .f32) (qTab ixs qv (16 * t + l)) ![ix] v (laneMask l) true h = qTab ixs qv (16 * t + (l + 1)) from e2] at e
  exact e

end Cert.Proof.Sc
-- ==== Proof.Fill.lean ====
/-
  The filling of the query table on one vector subcore: eight trips of sixteen masked additions (`wp_fill`).
-/
module

public import proofs.«01_k».proof.Proof.Loops

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- What the filling loop holds: the query's indices and values, and the table of the first `n` terms. -/
def fillPts (ixs : S128.Idx → BitVec 32) (qv : S128.Idx → F .f32) (n : ℕ) : sProp 𝕄 :=
  iprop(((qiM).view.loc (thr d L) ↦{fullShare} ixs) ∗ ((qvM).view.loc (thr d L) ↦{fullShare} qv)
    ∗ ((qdM).view.loc (thr d L) ↦{fullShare} qTab ixs qv n))

section Fill

variable (ixs : S128.Idx → BitVec 32) (qv : S128.Idx → F .f32)
    (arg2 : Memref sig .scVector .hbm S128 .i32) (harg2 : arg2.IsWhole) (arg3 : Memref sig .scVector .hbm S128 .f32) (harg3 : arg3.IsWhole)
    (arg4 : Memref sig .scVector .hbm S2686976 .i32) (harg4 : arg4.IsWhole) (arg5 : Memref sig .scVector .hbm S2686976 .f32) (harg5 : arg5.IsWhole)
    (arg6 : Memref sig .scVector .hbm S16384 .f32) (harg6 : arg6.IsWhole)
    (harg7 : (qdM).IsWhole) (harg8 : (qiM).IsWhole) (harg9 : (qvM).IsWhole)
    (arg10 : Memref sig .scVector .vmem S20992 .i32) (harg10 : arg10.IsWhole) (arg11 : Memref sig .scVector .vmem S20992 .i32) (harg11 : arg11.IsWhole)
    (arg12 : Memref sig .scVector .vmem S20992 .f32) (harg12 : arg12.IsWhole) (arg13 : Memref sig .scVector .vmem S20992 .f32) (harg13 : arg13.IsWhole)
    (arg14 : Memref sig .scVector .vmem S512 .f32) (harg14 : arg14.IsWhole) (arg15 : DmaSems sig S_) (arg16 : DmaSems sig S_)
    (r0 : DmaSems sig S_) (r1 : DmaSems sig S_) (r2 : DmaSems sig S_)

/-- One trip: sixteen indices and values loaded, and each lane added under its mask. -/
theorem fill_step (hix : ∀ i, (ixs i).toNat < 16384) (t : Fin k0_t2_loop.trips) (u : Unit) :
    fillPts d L ixs qv (16 * t.val)
      ⊢ WP d L (k0_t2_body (F := F) L arg2 harg2 arg3 harg3 arg4 harg4 arg5 harg5 arg6 harg6 qdM harg7 qiM harg8
            qvM harg9 arg10 harg10 arg11 harg11 arg12 harg12 arg13 harg13 arg14 harg14 arg15 arg16 r0 r1 r2
            (iota .scVector S16 32 [0] iota_S16_d0_w32_scVector) t u) (fun _ => fillPts d L ixs qv (16 * (t.val + 1))) := by
  have ht : t.val < 8 := t.isLt
  have hemb : ∀ x : S16.Idx, (Rect.unit (s := S128) (k0_off3 t) S16.size (k0_off3_inb t)).toLoadRect.idx x = iQ (16 * t.val + (x 0).val) := fun x =>
    ext1 (n := 128) (by
      have hx : (x 0).val < 16 := (x 0).isLt
      have e3 := congrFun (k0_off3_eq t) 0
      show k0_off3 t 0 + 1 * (x 0).val = (16 * t.val + (x 0).val) % 128
      rw [e3, Nat.mod_eq_of_lt (by omega)]
      show 16 * t.val + _ = _
      omega)
  have hi16 : ∀ x : S16.Idx, View.readAt (Elt F) (qiM).view (Rect.unit (s := S128) (k0_off3 t) S16.size (k0_off3_inb t)).toLoadRect ixs x
      = ixs (iQ (16 * t.val + (x 0).val)) := fun x => congrArg ixs (hemb x)
  have hv16 : ∀ x : S16.Idx, View.readAt (Elt F) (qvM).view (Rect.unit (s := S128) (k0_off3 t) S16.size (k0_off3_inb t)).toLoadRect qv x
      = qv (iQ (16 * t.val + (x 0).val)) := fun x => congrArg qv (hemb x)
  have hchk : ∀ (a : Fin 1) (x : S16.Idx), ((![View.readAt (Elt F) (qiM).view (Rect.unit (s := S128) (k0_off3 t) S16.size (k0_off3_inb t)).toLoadRect ixs] :
      Fin 1 → IVec S16 32) a x).toNat < S16384.size a := fun a x => by
    match a with
    | 0 => exact (congrArg BitVec.toNat (hi16 x)).trans_lt (hix _)
  unfold k0_t2_body fillPts
  rw [k0_part1_eq_skeleton]
  unfold k0_part1_skel
  simp only [Prog.lift, Prog.bind_op, Prog.bind_ret, Prog.pure_eq_ret, Prog.bind_assoc]
  iintro ⟨Hi, Hv, H⟩
  iapply (wp_load 𝒱₀ (thr d L) none Set.univ (m := qiM) (S := Finset.univ) (Finset.subset_univ _)) $$ Hi
  iintro Hi
  iapply (wp_as d L (show k0_chk1 _ by unfold k0_chk1; simp only [and_self]; exact hchk))
  iapply (wp_load 𝒱₀ (thr d L) none Set.univ (m := qvM) (S := Finset.univ) (Finset.subset_univ _)) $$ Hv
  iintro Hv
  iapply (wp_st d L ixs qv t.val 0 (by decide) rfl hi16 hv16) $$ H
  iintro H
  iterate 15
    iapply (wp_st d L ixs qv t.val _ ?_ rfl hi16 hv16) $$ H
    · decide
    iintro H
  unfold WP
  rw [wp_ret]
  imodintro
  isplitl [Hi]; · iexact Hi
  isplitl [Hv]; · iexact Hv
  iexact H

/-- The filling loop at the head of a program: it leaves the table of all 128 terms. -/
theorem wp_fill (hix : ∀ i, (ixs i).toNat < 16384)
    {β : Type} {kk : Unit → Prog (TpuEff nD τ sig (Elt F) Λ₀ (.scVector ((L 0).castLE hcore0) ((L 1).castLE hsub0))) β} {Q : β → sProp 𝕄} :
    fillPts d L ixs qv 0
      ⊢ iprop((fillPts d L ixs qv 128 -∗ WP d L (kk ⟨⟩) Q)
        -∗ WP d L (Scf.Loop.for k0_t2_loop k0_t2_ok ⟨⟩ (k0_t2_body (F := F) L arg2 harg2 arg3 harg3 arg4 harg4 arg5 harg5 arg6 harg6 qdM harg7 qiM harg8
            qvM harg9 arg10 harg10 arg11 harg11 arg12 harg12 arg13 harg13 arg14 harg14 arg15 arg16 r0 r1 r2
            (iota .scVector S16 32 [0] iota_S16_d0_w32_scVector)) >>= kk) Q) := by
  iintro H Hk
  iapply (Scf.wp_for_bind frame (wpE (defs₀ (F := F)) 𝒱₀ (thr d L) none) Set.univ k0_t2_loop.lb k0_t2_loop.ub k0_t2_loop.st k0_t2_ok
    ⟨⟩ _ (fun k _ => fillPts d L ixs qv (16 * k)) ?_) $$ [H]
  · intro t u
    exact fill_step d L ixs qv arg2 harg2 arg3 harg3 arg4 harg4 arg5 harg5 arg6 harg6 harg7 harg8 harg9 arg10 harg10 arg11 harg11 arg12 harg12
      arg13 harg13 arg14 harg14 arg15 arg16 r0 r1 r2 hix t u
  · iexact H
  · have e8 : Scf.trips k0_t2_loop.lb k0_t2_loop.ub k0_t2_loop.st = 8 := rfl
    rw [e8]
    iintro %acc H
    iapply Hk $$ H

end Fill

end Cert.Proof.Sc
-- ==== Proof.Chunk.lean ====
/-
  The four chunk loops of a vector subcore are the one group body at four offsets (`body3` … `body9`), and the blocks a
  chunk's copies bring in give the scores of the documents of that chunk (`score_eq`).
-/
module

public import proofs.«01_k».proof.Proof.Fill

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem

variable {F : FTy → Type} [FloatOps F]

variable (m : (ℓ : Loc nD τ sig) → Buf (Elt F) ℓ) (d : Dev nD) (L : grid0.Coords)

/-! ## The buffers -/

abbrev iV : Memref sig .scVector .hbm S128 .i32 := Memref.whole main_v0_scv
abbrev vV : Memref sig .scVector .hbm S128 .f32 := Memref.whole main_v1_scv
abbrev cVm : Memref sig .scVector .hbm S2686976 .i32 := Memref.whole main_arg3_scv
abbrev wVm : Memref sig .scVector .hbm S2686976 .f32 := Memref.whole main_arg4_scv
abbrev oV : Memref sig .scVector .hbm S16384 .f32 := Memref.whole main_v2_scv
abbrev cb0 : Memref sig .scVector .vmem S20992 .i32 := Memref.whole cc0_scratch3
abbrev cb1 : Memref sig .scVector .vmem S20992 .i32 := Memref.whole cc0_scratch4
abbrev wb0 : Memref sig .scVector .vmem S20992 .f32 := Memref.whole cc0_scratch5
abbrev wb1 : Memref sig .scVector .vmem S20992 .f32 := Memref.whole cc0_scratch6

/-- The subcore's chunks of the columns and of the collection's values, and its block of the scores. -/
abbrev cWin (v : BitVec 32) (h : ∀ a, k0_off1 L v a + S20992.size a ≤ S2686976.size a) : Memref sig .scVector .hbm S20992 .i32 :=
  (cVm).slice (Rect.unit (s := S2686976) (k0_off1 L v) S20992.size h) (fun _ => rfl)
abbrev wWin (v : BitVec 32) (h : ∀ a, k0_off1 L v a + S20992.size a ≤ S2686976.size a) : Memref sig .scVector .hbm S20992 .f32 :=
  (wVm).slice (Rect.unit (s := S2686976) (k0_off1 L v) S20992.size h) (fun _ => rfl)
abbrev oWin : Memref sig .scVector .hbm S512 .f32 :=
  (oV).slice (Rect.unit (s := S16384) (k0_off8 L) S512.size (k0_off8_inb L)) (fun _ => rfl)

/-- What a chunk's copies bring in. -/
abbrev colC (v : BitVec 32) (h : ∀ a, k0_off1 L v a + S20992.size a ≤ S2686976.size a) : S20992.Idx → BitVec 32 :=
  (cWin L v h).view.read (Elt F) (m (cLoc d))
abbrev valC (v : BitVec 32) (h : ∀ a, k0_off1 L v a + S20992.size a ≤ S2686976.size a) : S20992.Idx → F .f32 :=
  (wWin L v h).view.read (Elt F) (m (wLoc d))

/-- The score of the subcore's `i`-th document. -/
def scoreL : S512.Idx → F .f32 := fun i => docScore (qd m d) (m (cLoc d)) (m (wLoc d)) (1024 * (L 1).val + 512 * (L 0).val + (i 0).val)

theorem colC_apply (j : Fin 4) (i : S20992.Idx) :
    colC (F := F) m d L (BitVec.ofNat 32 (20992 * j.val)) (k0_off1_inb L j) i
      = m (cLoc d) (iN (167936 * (L 1).val + 83968 * (L 0).val + 20992 * j.val + (i 0).val)) := by
  have hs : (L 1).val < 16 := (L 1).isLt
  have hc : (L 0).val < 2 := (L 0).isLt
  have hi : (i 0).val < 20992 := (i 0).isLt
  have hj := j.isLt
  refine (View.read_apply _ _).trans ((cast_eq _ _).trans (congrArg (m (cLoc d)) (ext1 ?_)))
  refine (ValueKit.view_emb_slice_whole_unit_val main_arg3_scv (k0_off1 L (BitVec.ofNat 32 (20992 * j.val))) S20992.size (k0_off1_inb L j) i 0).trans ?_
  rw [at1_val _ _ _ (by omega)]
  exact congrArg (· + (i 0).val) (congrFun (k0_off1_eq L j) 0)

theorem valC_apply (j : Fin 4) (i : S20992.Idx) :
    valC (F := F) m d L (BitVec.ofNat 32 (20992 * j.val)) (k0_off1_inb L j) i
      = m (wLoc d) (iN (167936 * (L 1).val + 83968 * (L 0).val + 20992 * j.val + (i 0).val)) := by
  have hs : (L 1).val < 16 := (L 1).isLt
  have hc : (L 0).val < 2 := (L 0).isLt
  have hi : (i 0).val < 20992 := (i 0).isLt
  have hj := j.isLt
  refine (View.read_apply _ _).trans ((cast_eq _ _).trans (congrArg (m (wLoc d)) (ext1 ?_)))
  refine (ValueKit.view_emb_slice_whole_unit_val main_arg4_scv (k0_off1 L (BitVec.ofNat 32 (20992 * j.val))) S20992.size (k0_off1_inb L j) i 0).trans ?_
  rw [at1_val _ _ _ (by omega)]
  exact congrArg (· + (i 0).val) (congrFun (k0_off1_eq L j) 0)

section Bodies

variable (v4 v19 : IVec S16 32)

theorem body3 (g : Fin k0_t3_loop.trips) (u : Unit) :
    k0_t3_body (F := F) L iV (Memref.isWhole_whole _) vV (Memref.isWhole_whole _) cVm (Memref.isWhole_whole _) wVm (Memref.isWhole_whole _)
          oV (Memref.isWhole_whole _) qdM (Memref.isWhole_whole _) qiM (Memref.isWhole_whole _) qvM (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2 (iota .scVector S16 32 [0] iota_S16_d0_w32_scVector) g u
      = grpBody L cb0 wb0 qdM (k0_off4 g) (k0_off4_inb g) (posV g.val 0) := by
  rw [← pay20_posV]; rfl

theorem body5 (v3 : BitVec 32) (g : Fin k0_t5_loop.trips) (u : Unit) :
    k0_t5_body (F := F) L iV (Memref.isWhole_whole _) vV (Memref.isWhole_whole _) cVm (Memref.isWhole_whole _) wVm (Memref.isWhole_whole _)
          oV (Memref.isWhole_whole _) qdM (Memref.isWhole_whole _) qiM (Memref.isWhole_whole _) qvM (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2 v3 (iota .scVector S16 32 [0] iota_S16_d0_w32_scVector) (k0_pay14 (F := F)) k0_pay19 g u
      = grpBody L cb1 wb1 qdM (k0_off5 g) (k0_off5_inb g) (posV g.val 0) := by
  rw [← pay20_posV]; rfl

theorem body7 (v3 : BitVec 32) (g : Fin k0_t7_loop.trips) (u : Unit) :
    k0_t7_body (F := F) L iV (Memref.isWhole_whole _) vV (Memref.isWhole_whole _) cVm (Memref.isWhole_whole _) wVm (Memref.isWhole_whole _)
          oV (Memref.isWhole_whole _) qdM (Memref.isWhole_whole _) qiM (Memref.isWhole_whole _) qvM (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2 v3 (iota .scVector S16 32 [0] iota_S16_d0_w32_scVector) (k0_pay14 (F := F)) k0_pay19 g u
      = grpBody L cb0 wb0 qdM (k0_off6 g) (k0_off6_inb g) (posV g.val 0) := by
  rw [← pay20_posV]; rfl

theorem body9 (v3 : BitVec 32) (g : Fin k0_t9_loop.trips) (u : Unit) :
    k0_t9_body (F := F) L iV (Memref.isWhole_whole _) vV (Memref.isWhole_whole _) cVm (Memref.isWhole_whole _) wVm (Memref.isWhole_whole _)
          oV (Memref.isWhole_whole _) qdM (Memref.isWhole_whole _) qiM (Memref.isWhole_whole _) qvM (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2 v3 (iota .scVector S16 32 [0] iota_S16_d0_w32_scVector) (k0_pay14 (F := F)) k0_pay19 g u
      = grpBody L cb1 wb1 qdM (k0_off7 g) (k0_off7_inb g) (posV g.val 0) := by
  rw [← pay20_posV]; rfl

end Bodies

theorem score_eq (j : Fin 4) (g : ℕ) (x : S16.Idx) (i : S512.Idx) (hg : g < 8) (hi : (i 0).val = 128 * j.val + 16 * g + (x 0).val) :
    scoreL m d L i = comb FloatOps.addf (accs FloatOps.addf (FloatOps.ofBits .f32 0#32)
      (fun k => tm (colC m d L (BitVec.ofNat 32 (20992 * j.val)) (k0_off1_inb L j)) (valC m d L (BitVec.ofNat 32 (20992 * j.val)) (k0_off1_inb L j))
        (qd m d) g k x) 164) := by
  have hx := lt16 x
  unfold scoreL docScore
  congr 2
  funext k
  have e : (((1024 * (L 1).val + 512 * (L 0).val + (i 0).val) * 164 + ((1024 * (L 1).val + 512 * (L 0).val + (i 0).val) % 16 + k) % 164))
      = 167936 * (L 1).val + 83968 * (L 0).val + 20992 * j.val + ((16 * g + (x 0).val) * 164 + ((x 0).val + k) % 164) := by
    rw [hi]
    have : (1024 * (L 1).val + 512 * (L 0).val + (128 * j.val + 16 * g + (x 0).val)) % 16 = (x 0).val := by omega
    rw [this]
    have := Nat.mod_lt ((x 0).val + k) (show 0 < 164 by decide)
    omega
  have hp : ((16 * g + (x 0).val) * 164 + ((x 0).val + k) % 164) < 20992 := by
    have := Nat.mod_lt ((x 0).val + k) (show 0 < 164 by decide)
    omega
  unfold tm docTerm
  rw [colC_apply, valC_apply, e]
  rw [show ((iC ((16 * g + (x 0).val) * 164 + ((x 0).val + k) % 164)) 0).val = (16 * g + (x 0).val) * 164 + ((x 0).val + k) % 164 from at1_val _ _ _ hp _]

end Cert.Proof.Sc
-- ==== Proof.Tile.lean ====
/-
  The score kernel's task on one vector subcore: the copies in, the query table, the four chunks and the copy out
  (`tile_core`), at a symbolic subcore.
-/
module

public import proofs.«01_k».proof.Proof.Chunk

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- One chunk's windows of the columns and the values, held by their own elements at the share `q`. -/
abbrev winPts (v : BitVec 32) (h : ∀ a, k0_off1 L v a + S20992.size a ≤ S2686976.size a) (q : PosShare TreeShare) : sProp 𝕄 :=
  iprop(((cWin L v h).view.loc (thr d L) ↦[(cWin L v h).view.set]{q} m (cLoc d)) ∗ ((wWin L v h).view.loc (thr d L) ↦[(wWin L v h).view.set]{q} m (wLoc d)))

theorem landed_cb0 (f : S20992.Idx → BitVec 32) (p : S20992.Idx → BitVec 32) :
    ((cb0).access (.whole S20992)).read (Elt F) (View.write (Elt F) (cb0).view f p Finset.univ) = p :=
  (Memref.read_access_whole (Elt F) cc0_scratch3 _).trans (View.write_whole_univ ..)
theorem landed_cb1 (f : S20992.Idx → BitVec 32) (p : S20992.Idx → BitVec 32) :
    ((cb1).access (.whole S20992)).read (Elt F) (View.write (Elt F) (cb1).view f p Finset.univ) = p :=
  (Memref.read_access_whole (Elt F) cc0_scratch4 _).trans (View.write_whole_univ ..)
theorem landed_wb0 (f : S20992.Idx → F .f32) (p : S20992.Idx → F .f32) :
    ((wb0).access (.whole S20992)).read (Elt F) (View.write (Elt F) (wb0).view f p Finset.univ) = p :=
  (Memref.read_access_whole (Elt F) cc0_scratch5 _).trans (View.write_whole_univ ..)
theorem landed_wb1 (f : S20992.Idx → F .f32) (p : S20992.Idx → F .f32) :
    ((wb1).access (.whole S20992)).read (Elt F) (View.write (Elt F) (wb1).view f p Finset.univ) = p :=
  (Memref.read_access_whole (Elt F) cc0_scratch6 _).trans (View.write_whole_univ ..)

theorem colC_lt (hpre : PreOK m) (j : Fin 4) (i : S20992.Idx) : (colC (F := F) m d L (BitVec.ofNat 32 (20992 * j.val)) (k0_off1_inb L j) i).toNat < 16384 := by
  rw [colC_apply]; exact hpre.2 d _

/-- The block copied out is the scores' block. -/
theorem out_eq (fo : Buf (Elt F) ((oWin L).view.loc (thr d L))) (fB : S512.Idx → F .f32) (hB : ∀ i : S512.Idx, (i 0).val < 512 → fB i = scoreL m d L i)
    (i : S16384.Idx) (hi : i ∈ (oWin L).view.set) : (oWin L).view.writes (Elt F) fo [⟨Rect.whole S512, fB⟩] i = G m d i := by
  obtain ⟨x, hx⟩ : ∃ x, (oWin L).view.emb x = i := by
    obtain ⟨x, -, hx⟩ := Finset.mem_map.mp hi
    exact ⟨x, hx⟩
  subst hx
  rw [← View.write_univ_eq_writes_whole, View.write_emb_of_mem _ _ (Finset.mem_univ _)]
  refine (cast_eq _ _).trans ((hB x (x 0).isLt).trans ?_)
  unfold scoreL G
  congr 1
  exact ((ValueKit.view_emb_slice_whole_unit_val main_v2_scv (k0_off8 L) S512.size (k0_off8_inb L) x 0).trans
    (congrArg (· + (x 0).val) (congrFun (k0_off8_eq L) 0))).symm

set_option maxHeartbeats 4000000 in
theorem tile_core (hpre : PreOK m) (q q0 q1 q2 q3 : PosShare TreeShare) (O : CellTallies nD τ sig (HIx 1)) (W : Waits sig (HIx 1))
    (f7 : Buf (Elt F) ((qdM).view.loc (thr d L))) (f8 : Buf (Elt F) ((qiM).view.loc (thr d L))) (f9 : Buf (Elt F) ((qvM).view.loc (thr d L)))
    (f10 : Buf (Elt F) ((cb0).view.loc (thr d L))) (f11 : Buf (Elt F) ((cb1).view.loc (thr d L)))
    (f12 : Buf (Elt F) ((wb0).view.loc (thr d L))) (f13 : Buf (Elt F) ((wb1).view.loc (thr d L))) (f14 : Buf (Elt F) ((obM).view.loc (thr d L)))
    (fo : Buf (Elt F) ((oWin L).view.loc (thr d L)))
    (_planA : Transfers.BatchOf (thr d L) (SemLoc.dma (sig := sig) cc0_scratch8.sem) 2)
    (_planB : Transfers.BatchOf (thr d L) (SemLoc.dma (sig := sig) cc0_scratch9.sem) 2) :
    iprop(((iV).view.loc (thr d L) ↦{q} qi m d) ∗ ((vV).view.loc (thr d L) ↦{q} qv m d)
        ∗ winPts m d L 0#32 (k0_off1_inb L 0) q0 ∗ winPts m d L 20992#32 (k0_off1_inb L 1) q1
        ∗ winPts m d L 41984#32 (k0_off1_inb L 2) q2 ∗ winPts m d L 62976#32 (k0_off1_inb L 3) q3
        ∗ ((oWin L).view.loc (thr d L) ↦[(oWin L).view.set]{fullShare} fo)
        ∗ ((qdM).view.loc (thr d L) ↦{fullShare} f7) ∗ ((qiM).view.loc (thr d L) ↦{fullShare} f8) ∗ ((qvM).view.loc (thr d L) ↦{fullShare} f9)
        ∗ ((cb0).view.loc (thr d L) ↦{fullShare} f10) ∗ ((cb1).view.loc (thr d L) ↦{fullShare} f11)
        ∗ ((wb0).view.loc (thr d L) ↦{fullShare} f12) ∗ ((wb1).view.loc (thr d L) ↦{fullShare} f13) ∗ ((obM).view.loc (thr d L) ↦{fullShare} f14)
        ∗ semVal (thr d L, SemLoc.dma cc0_scratch8.sem) 0 ∗ semVal (thr d L, SemLoc.dma cc0_scratch9.sem) 0
        ∗ semVal (thr d L, SemLoc.dma cc0_scoped0.sem) 0 ∗ semVal (thr d L, SemLoc.dma cc0_scoped1.sem) 0 ∗ semVal (thr d L, SemLoc.dma cc0_scoped2.sem) 0
        ∗ owes (thr d L) O W ∗ Transfers.MayWaits (thr d L) (default : HIx 1) O)
      ⊢ WP d L (cc0__sc_scores_body L iV (Memref.isWhole_whole _) vV (Memref.isWhole_whole _) cVm (Memref.isWhole_whole _) wVm (Memref.isWhole_whole _)
          oV (Memref.isWhole_whole _) qdM (Memref.isWhole_whole _) qiM (Memref.isWhole_whole _) qvM (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2)
          fun _ => iprop(((iV).view.loc (thr d L) ↦{q} qi m d) ∗ ((vV).view.loc (thr d L) ↦{q} qv m d)
            ∗ winPts m d L 0#32 (k0_off1_inb L 0) q0 ∗ winPts m d L 20992#32 (k0_off1_inb L 1) q1
            ∗ winPts m d L 41984#32 (k0_off1_inb L 2) q2 ∗ winPts m d L 62976#32 (k0_off1_inb L 3) q3
            ∗ ((oWin L).view.loc (thr d L) ↦[(oWin L).view.set]{fullShare} G m d)
            ∗ (∃ f, (qdM).view.loc (thr d L) ↦{fullShare} f) ∗ (∃ f, (qiM).view.loc (thr d L) ↦{fullShare} f) ∗ (∃ f, (qvM).view.loc (thr d L) ↦{fullShare} f)
            ∗ (∃ f, (cb0).view.loc (thr d L) ↦{fullShare} f) ∗ (∃ f, (cb1).view.loc (thr d L) ↦{fullShare} f)
            ∗ (∃ f, (wb0).view.loc (thr d L) ↦{fullShare} f) ∗ (∃ f, (wb1).view.loc (thr d L) ↦{fullShare} f) ∗ (∃ f, (obM).view.loc (thr d L) ↦{fullShare} f)
            ∗ semVal (thr d L, SemLoc.dma cc0_scratch8.sem) 0 ∗ semVal (thr d L, SemLoc.dma cc0_scratch9.sem) 0
            ∗ semVal (thr d L, SemLoc.dma cc0_scoped0.sem) 0 ∗ semVal (thr d L, SemLoc.dma cc0_scoped1.sem) 0 ∗ semVal (thr d L, SemLoc.dma cc0_scoped2.sem) 0
            ∗ ∃ W', ⌜∀ p ∈ W', p ∈ W ∨ p.2 = none⌝ ∗ owes (thr d L) O W') := by
  rw [cc0__sc_scores_body_eq_skeleton]; unfold cc0__sc_scores_body_skel
  rw [k0_part2_eq_skeleton, k0_part3_eq_skeleton]
  unfold k0_part2_skel k0_part3_skel WP
  iintro ⟨Hi, Hv, ⟨Hc0, Hw0⟩, ⟨Hc1, Hw1⟩, ⟨Hc2, Hw2⟩, ⟨Hc3, Hw3⟩, Ho, H7, H8, H9, H10, H11, H12, H13, H14, HsA, HsB, Hr0, Hr1, Hr2, HO, Hmw⟩
  sl_exec
  rw [Prog.bind_assoc]
  iapply (wp_clear d L _ (fun _ _ => rfl) f7) $$ [H7]
  · iexact H7
  iintro H7
  ihave H8' := (Entails.of_eq (show ((qiM).view.loc (thr d L) ↦{fullShare} View.write (Elt F) (qiM).view f8 (tile_core.sl.dma0_1 m d) Finset.univ : sProp 𝕄)
      = ((qiM).view.loc (thr d L) ↦{fullShare} (qi m d : S128.Idx → BitVec 32)) from congrArg _ (View.write_whole_univ ..))) $$ H8
  ihave H9' := (Entails.of_eq (show ((qvM).view.loc (thr d L) ↦{fullShare} View.write (Elt F) (qvM).view f9 (tile_core.sl.dma0_2 m d) Finset.univ : sProp 𝕄)
      = ((qvM).view.loc (thr d L) ↦{fullShare} (qv m d : S128.Idx → F .f32)) from congrArg _ (View.write_whole_univ ..))) $$ H9
  rw [Prog.bind_assoc]
  iapply (wp_fill d L (qi m d) (qv m d) iV (Memref.isWhole_whole _) vV (Memref.isWhole_whole _) cVm (Memref.isWhole_whole _) wVm (Memref.isWhole_whole _)
          oV (Memref.isWhole_whole _) (Memref.isWhole_whole _) (Memref.isWhole_whole _) (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2 (fun i => hpre.1 d _)) $$ [H7 H8' H9']
  · unfold fillPts
    isplitl [H8']; · iexact H8'
    isplitl [H9']; · iexact H9'
    iexact H7
  unfold fillPts
  iintro ⟨H8, H9, H7⟩
  unfold WP
  sl_exec
  rw [Prog.bind_assoc]
  ihave HB := (show iprop(((obM).view.loc (thr d L) ↦{fullShare} f14)) ⊢ (obPts d L (scoreL m d L) 0 : sProp 𝕄) from ?_) $$ [H14]
  · unfold obPts
    iintro H
    iexists f14
    isplitr
    · ipureintro
      exact fun i h => absurd h (Nat.not_lt_zero _)
    · iexact H
  · iexact H14
  iapply (wp_chunk d L cb0 wb0 qdM _ _ _ (colC m d L (BitVec.ofNat 32 (20992 * (0 : Fin 4).val)) (k0_off1_inb L 0))
    (valC m d L (BitVec.ofNat 32 (20992 * (0 : Fin 4).val)) (k0_off1_inb L 0)) (qd m d) (colC_lt m d L hpre 0)
    (landed_cb0 _ _) (landed_wb0 _ _) (Memref.read_access_whole (Elt F) cc0_scratch0 _) (scoreL m d L) 0 k0_off4 k0_off4_inb
    (fun g => (congrFun (k0_off4_eq g) 0).trans (Nat.zero_add _).symm) (fun g x i hg hi => score_eq m d L 0 g x i hg hi) _
    (fun g u => body3 L g u)) $$ [H10 H12 H7 HB]
  · isplitl [H10 H12 H7]
    · isplitl [H10]; · iexact H10
      isplitl [H12]; · iexact H12
      iexact H7
    · iexact HB
  iintro ⟨⟨H10, H12, H7⟩, HB⟩
  unfold WP
  sl_exec
  rw [Prog.bind_assoc]
  iapply (wp_chunk d L cb1 wb1 qdM _ _ _ (colC m d L (BitVec.ofNat 32 (20992 * (1 : Fin 4).val)) (k0_off1_inb L 1))
    (valC m d L (BitVec.ofNat 32 (20992 * (1 : Fin 4).val)) (k0_off1_inb L 1)) (qd m d) (colC_lt m d L hpre 1)
    (landed_cb1 _ _) (landed_wb1 _ _) (Memref.read_access_whole (Elt F) cc0_scratch0 _) (scoreL m d L) 128 k0_off5 k0_off5_inb
    (fun g => (congrFun (k0_off5_eq g) 0).trans (Nat.add_comm _ _)) (fun g x i hg hi => score_eq m d L 1 g x i hg hi) _
    (fun g u => body5 L _ g u)) $$ [H11 H13 H7 HB]
  · isplitl [H11 H13 H7]
    · isplitl [H11]; · iexact H11
      isplitl [H13]; · iexact H13
      iexact H7
    · iexact HB
  iintro ⟨⟨H11, H13, H7⟩, HB⟩
  unfold WP
  sl_exec
  rw [Prog.bind_assoc]
  iapply (wp_chunk d L cb0 wb0 qdM _ _ _ (colC m d L (BitVec.ofNat 32 (20992 * (2 : Fin 4).val)) (k0_off1_inb L 2))
    (valC m d L (BitVec.ofNat 32 (20992 * (2 : Fin 4).val)) (k0_off1_inb L 2)) (qd m d) (colC_lt m d L hpre 2)
    (landed_cb0 _ _) (landed_wb0 _ _) (Memref.read_access_whole (Elt F) cc0_scratch0 _) (scoreL m d L) 256 k0_off6 k0_off6_inb
    (fun g => (congrFun (k0_off6_eq g) 0).trans (Nat.add_comm _ _)) (fun g x i hg hi => score_eq m d L 2 g x i hg hi) _
    (fun g u => body7 L _ g u)) $$ [H10 H12 H7 HB]
  · isplitl [H10 H12 H7]
    · isplitl [H10]; · iexact H10
      isplitl [H12]; · iexact H12
      iexact H7
    · iexact HB
  iintro ⟨⟨H10, H12, H7⟩, HB⟩
  unfold WP
  sl_exec
  rw [Prog.bind_assoc]
  iapply (wp_chunk d L cb1 wb1 qdM _ _ _ (colC m d L (BitVec.ofNat 32 (20992 * (3 : Fin 4).val)) (k0_off1_inb L 3))
    (valC m d L (BitVec.ofNat 32 (20992 * (3 : Fin 4).val)) (k0_off1_inb L 3)) (qd m d) (colC_lt m d L hpre 3)
    (landed_cb1 _ _) (landed_wb1 _ _) (Memref.read_access_whole (Elt F) cc0_scratch0 _) (scoreL m d L) 384 k0_off7 k0_off7_inb
    (fun g => (congrFun (k0_off7_eq g) 0).trans (Nat.add_comm _ _)) (fun g x i hg hi => score_eq m d L 3 g x i hg hi) _
    (fun g u => body9 L _ g u)) $$ [H11 H13 H7 HB]
  · isplitl [H11 H13 H7]
    · isplitl [H11]; · iexact H11
      isplitl [H13]; · iexact H13
      iexact H7
    · iexact HB
  iintro ⟨⟨H11, H13, H7⟩, HB⟩
  unfold WP
  unfold obPts
  icases HB with ⟨%fB, %hB, H14⟩
  sl_exec
  sl_step
  isplitl [Hi]; · iexact Hi
  isplitl [Hv]; · iexact Hv
  isplitl [Hc0 Hw0]; · isplitl [Hc0]; · iexact Hc0
                       iexact Hw0
  isplitl [Hc1 Hw1]; · isplitl [Hc1]; · iexact Hc1
                       iexact Hw1
  isplitl [Hc2 Hw2]; · isplitl [Hc2]; · iexact Hc2
                       iexact Hw2
  isplitl [Hc3 Hw3]; · isplitl [Hc3]; · iexact Hc3
                       iexact Hw3
  isplitl [Ho]
  · iapply (Entails.of_eq (pointsTo_congr (out_eq m d L fo fB hB))) $$ [Ho]
    iexact Ho
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HsA]; · iexact HsA
  isplitl [HsB]; · iexact HsB
  isplitl [Hr0]; · iexact Hr0
  isplitl [Hr1]; · iexact Hr1
  isplitl [Hr2]; · iexact Hr2
  iexists _; isplitr
  rotate_left
  · iexact HO
  · ipureintro
    intro p hp
    simp only [Finset.mem_insert] at hp
    rcases hp with hp | hp | hp | hp | hp | hp | hp | hp | hp | hp | hp | hp
    all_goals first | exact .inl hp | exact .inr (hp ▸ rfl)

end Cert.Proof.Sc
-- ==== Proof.Obl.lean ====
/-
  The score kernel's task as the launch asks for it: the subcore's own buffers and cells, its shares of the inputs cut to
  its four chunks (`tile_body`), the obligation (`tileObl`), and the split of a SparseCore's share among its subcores
  (`vecSplit`).
-/
module

public import proofs.«01_k».proof.Proof.Tile

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The subcore's own buffers and cells -/

/-- The scratch buffers. -/
def scr : Fin 8 → Ref sig .scVector := ![cc0_scratch0, cc0_scratch1, cc0_scratch2, cc0_scratch3, cc0_scratch4, cc0_scratch5, cc0_scratch6, cc0_scratch7]
theorem scr_inj : Function.Injective scr := by decide
/-- The cells of the copies. -/
def cel : Fin 5 → SemLoc sig := ![.dma cc0_scratch8.sem, .dma cc0_scratch9.sem, .dma cc0_scoped0.sem, .dma cc0_scoped1.sem, .dma cc0_scoped2.sem]
theorem cel_inj : Function.Injective cel := by decide

theorem fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
theorem fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- The subcore's buffers of the scratch, among its own. -/
def scrEmb : Fin 8 ↪ DevRef τ sig := ⟨fun i => (Proc.scVector (cV L) (jV L)).devRef (scr i), fun _ _ e => scr_inj (Proc.devRef_injective _ e)⟩
def celEmb : Fin 5 ↪ GSem nD τ sig := ⟨fun i => (thr d L, cel i), fun _ _ e => cel_inj (Prod.mk.inj e).2⟩

theorem ownBufs_V : (ownBufs (thr d L) : sProp 𝕄)
    = iprop(((∃ f, (qdM).view.loc (thr d L) ↦{fullShare} f) ∗ (∃ f, (qiM).view.loc (thr d L) ↦{fullShare} f) ∗ (∃ f, (qvM).view.loc (thr d L) ↦{fullShare} f)
        ∗ (∃ f, (cb0).view.loc (thr d L) ↦{fullShare} f) ∗ (∃ f, (cb1).view.loc (thr d L) ↦{fullShare} f)
        ∗ (∃ f, (wb0).view.loc (thr d L) ↦{fullShare} f) ∗ (∃ f, (wb1).view.loc (thr d L) ↦{fullShare} f) ∗ (∃ f, (obM).view.loc (thr d L) ↦{fullShare} f))
      ∗ bigSep (ownRefs (τ := τ) (.scVector (cV L) (jV L)) \ Finset.univ.map (scrEmb L)) fun b => iprop(∃ f, ((d, b) : Loc nD τ sig) ↦{fullShare} f)) := by
  unfold SparseCore.Cfg.ownBufs
  have hsub : Finset.univ.map (scrEmb L) ⊆ ownRefs (τ := τ) (sig := sig) (.scVector (cV L) (jV L)) := by
    intro b hb
    obtain ⟨i, -, rfl⟩ := Finset.mem_map.mp hb
    refine SparseCore.Cfg.mem_ownRefs_of_owner (p := Proc.scVector (cV L) (jV L)) ?_
    match i with | 0 => rfl | 1 => rfl | 2 => rfl | 3 => rfl | 4 => rfl | 5 => rfl | 6 => rfl | 7 => rfl
  exact (bigSep_sdiff_split hsub).trans (congrArg (fun X : sProp 𝕄 => iprop(X ∗ _)) ((bigSep_map _).trans (fin8 _)))

theorem ownSems0_V : (ownSems0 (thr d L) : sProp 𝕄)
    = iprop((semVal (thr d L, SemLoc.dma cc0_scratch8.sem) 0 ∗ semVal (thr d L, SemLoc.dma cc0_scratch9.sem) 0
        ∗ semVal (thr d L, SemLoc.dma cc0_scoped0.sem) 0 ∗ semVal (thr d L, SemLoc.dma cc0_scoped1.sem) 0 ∗ semVal (thr d L, SemLoc.dma cc0_scoped2.sem) 0)
      ∗ bigSep (ownCells (thr d L) \ Finset.univ.map (celEmb d L)) fun g => semVal g 0) := by
  unfold SparseCore.Cfg.ownSems0
  have hsub : Finset.univ.map (celEmb d L) ⊆ ownCells (thr d L) := by
    intro b hb
    obtain ⟨i, -, rfl⟩ := Finset.mem_map.mp hb
    have h : ∀ i, (cel i).isScoped .scVector = true := by decide
    exact mem_ownCells.mpr ⟨rfl, h i⟩
  exact (bigSep_sdiff_split hsub).trans (congrArg (fun X : sProp 𝕄 => iprop(X ∗ _)) ((bigSep_map _).trans (fin5 _)))

/-! ## The share of an input, quartered, each quarter cut to a chunk -/

theorem quarter {ℓ : Loc nD τ sig} (q : PosShare TreeShare) (f : Buf (Elt F) ℓ) :
    (ℓ ↦{q} f : sProp 𝕄) ⊢ iprop(((ℓ ↦{q.left.left} f) ∗ (ℓ ↦{q.left.right} f) ∗ (ℓ ↦{q.right.left} f) ∗ (ℓ ↦{q.right.right} f))
      ∗ (((ℓ ↦{q.left.left} f) ∗ (ℓ ↦{q.left.right} f) ∗ (ℓ ↦{q.right.left} f) ∗ (ℓ ↦{q.right.right} f)) -∗ (ℓ ↦{q} f))) := by
  have h (q : PosShare TreeShare) : (ℓ ↦{q} f : sProp 𝕄) = iprop((ℓ ↦{q.left} f) ∗ (ℓ ↦{q.right} f)) :=
    BI.Entails.antisymm (pointsTo_share (PosShare.mem_left_op_right q)).1 (pointsTo_share (PosShare.mem_left_op_right q)).2
  rw [h q, h q.left, h q.right]
  iintro ⟨⟨Ha, Hb⟩, Hc, Hd⟩
  isplitl [Ha Hb Hc Hd]
  · isplitl [Ha]; · iexact Ha
    isplitl [Hb]; · iexact Hb
    isplitl [Hc]; · iexact Hc
    iexact Hd
  · iintro ⟨Ha, Hb, Hc, Hd⟩
    isplitl [Ha Hb]
    · isplitl [Ha]; · iexact Ha
      iexact Hb
    · isplitl [Hc]; · iexact Hc
      iexact Hd

theorem cut {ℓ : Loc nD τ sig} (W : Finset (Idx ℓ)) (q : PosShare TreeShare) (f : Buf (Elt F) ℓ) :
    (ℓ ↦{q} f : sProp 𝕄) ⊢ iprop((ℓ ↦[W]{q} f) ∗ ((ℓ ↦[W]{q} f) -∗ (ℓ ↦{q} f))) := by
  refine (pointsTo_split_subset (q := q) (f := f) (S := Finset.univ) (Finset.subset_univ W)).1.trans ?_
  iintro ⟨Ha, Hb⟩
  isplitl [Ha]; · iexact Ha
  iintro Ha
  iapply (pointsTo_split_subset (q := q) (f := f) (S := Finset.univ) (Finset.subset_univ W)).2 $$ [Ha Hb]
  isplitl [Ha]; · iexact Ha
  iexact Hb

theorem cut4 {ℓ : Loc nD τ sig} (W0 W1 W2 W3 : Finset (Idx ℓ)) (q : PosShare TreeShare) (f : Buf (Elt F) ℓ) :
    (ℓ ↦{q} f : sProp 𝕄) ⊢ iprop(((ℓ ↦[W0]{q.left.left} f) ∗ (ℓ ↦[W1]{q.left.right} f) ∗ (ℓ ↦[W2]{q.right.left} f) ∗ (ℓ ↦[W3]{q.right.right} f))
      ∗ (((ℓ ↦[W0]{q.left.left} f) ∗ (ℓ ↦[W1]{q.left.right} f) ∗ (ℓ ↦[W2]{q.right.left} f) ∗ (ℓ ↦[W3]{q.right.right} f)) -∗ (ℓ ↦{q} f))) := by
  refine (quarter q f).trans ?_
  iintro ⟨⟨Ha, Hb, Hc, Hd⟩, Hk⟩
  ihave Ha' := (cut W0 _ f) $$ Ha
  ihave Hb' := (cut W1 _ f) $$ Hb
  ihave Hc' := (cut W2 _ f) $$ Hc
  ihave Hd' := (cut W3 _ f) $$ Hd
  icases Ha' with ⟨Ha, Ka⟩
  icases Hb' with ⟨Hb, Kb⟩
  icases Hc' with ⟨Hc, Kc⟩
  icases Hd' with ⟨Hd, Kd⟩
  isplitl [Ha Hb Hc Hd]
  · isplitl [Ha]; · iexact Ha
    isplitl [Hb]; · iexact Hb
    isplitl [Hc]; · iexact Hc
    iexact Hd
  · iintro ⟨Ha, Hb, Hc, Hd⟩
    iapply Hk $$ [Ha Hb Hc Hd Ka Kb Kc Kd]
    isplitl [Ha Ka]; · iapply Ka $$ Ha
    isplitl [Hb Kb]; · iapply Kb $$ Hb
    isplitl [Hc Kc]; · iapply Kc $$ Hc
    iapply Kd $$ Hd

/-! ## The rows -/

theorem blk_bound : (L 1).val < 16 ∧ (L 0).val < 2 := ⟨(L 1).isLt, (L 0).isLt⟩
abbrev blkL : Fin 32 := blk ⟨(L 0).val, (blk_bound L).2⟩ ⟨(L 1).val, (blk_bound L).1⟩

theorem orowK_eq : Rect.unit (s := S16384) (k0_off8 L) S512.size (k0_off8_inb L) = orow (blkL L) := by
  unfold orow Rect.part Rect.block
  congr 1 <;> funext a <;> match a with
  | 0 => first
    | (rw [k0_off8_eq]; simp [Shape.partIx, Shape.partSize, blkL, blk]; omega)
    | simp [Shape.partSize]

theorem pts_oWin (f : Buf (Elt F) (oLoc d)) :
    ((oWin L).view.loc (thr d L) ↦[(oWin L).view.set]{fullShare} f : sProp 𝕄) = oRowPts d (blkL L) f := by
  have h : (oWin L).view.set = oRowSet (blkL L) := by
    show ((oV).view.slice (Rect.unit (s := S16384) (k0_off8 L) S512.size (k0_off8_inb L))).set = _
    exact orowK_eq L ▸ rfl
  show (oLoc d ↦[(oWin L).view.set]{fullShare} f : sProp 𝕄) = _
  rw [h]

set_option maxHeartbeats 2000000 in
/-- The task on vector subcore `(L 0, L 1)` of device `d`, from what the launch hands it. -/
theorem tile_body (hF : (K (F := F)).Facts) (hpre : PreOK m) (q : PosShare TreeShare) (O : CellTallies nD τ sig (HIx 1)) (W : Waits sig (HIx 1))
    (hO : ∀ g, O g none = 0) :
    iprop(levAts (K (F := F)).L (K (F := F)).lev ∗ emp ∗ (inPts m d q ∗ oRowPts d (blkL L) (m (oLoc d)))
        ∗ scopedBufs (thr d L) ∗ scopedSems0 (thr d L) ∗ owes (thr d L) O W)
      ⊢ WP d L (cc0__sc_scores_body L iV (Memref.isWhole_whole _) vV (Memref.isWhole_whole _) cVm (Memref.isWhole_whole _) wVm (Memref.isWhole_whole _)
          oV (Memref.isWhole_whole _) qdM (Memref.isWhole_whole _) qiM (Memref.isWhole_whole _) qvM (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2)
          fun _ => iprop((inPts m d q ∗ oRowPts d (blkL L) (G m d)) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨⟨Hi, Hv, Hc, Hw⟩, Ho⟩,
    ⟨⟨⟨%f7, H7⟩, ⟨%f8, H8⟩, ⟨%f9, H9⟩, ⟨%f10, H10⟩, ⟨%f11, H11⟩, ⟨%f12, H12⟩, ⟨%f13, H13⟩, ⟨%f14, H14⟩⟩, Hbufs⟩,
    ⟨⟨HsA, HsB, Hr0, Hr1, Hr2⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hc' := (cut4 (cWin L 0#32 (k0_off1_inb L 0)).view.set (cWin L 20992#32 (k0_off1_inb L 1)).view.set (cWin L 41984#32 (k0_off1_inb L 2)).view.set
    (cWin L 62976#32 (k0_off1_inb L 3)).view.set q (m (cLoc d))) $$ Hc
  ihave Hw' := (cut4 (wWin L 0#32 (k0_off1_inb L 0)).view.set (wWin L 20992#32 (k0_off1_inb L 1)).view.set (wWin L 41984#32 (k0_off1_inb L 2)).view.set
    (wWin L 62976#32 (k0_off1_inb L 3)).view.set q (m (wLoc d))) $$ Hw
  icases Hc' with ⟨⟨Hc0, Hc1, Hc2, Hc3⟩, Kc⟩
  icases Hw' with ⟨⟨Hw0, Hw1, Hw2, Hw3⟩, Kw⟩
  ihave Ho' := (Entails.of_eq (pts_oWin (F := F) d L _).symm) $$ Ho
  ihave HT := (tile_core m d L hpre q q.left.left q.left.right q.right.left q.right.right O W f7 f8 f9 f10 f11 f12 f13 f14 (m (oLoc d)) ⟨⟩ ⟨⟩)
    $$ [Hi Hv Hc0 Hc1 Hc2 Hc3 Hw0 Hw1 Hw2 Hw3 Ho' H7 H8 H9 H10 H11 H12 H13 H14 HsA HsB Hr0 Hr1 Hr2 HO Hmw]
  · isplitl [Hi]; · iexact Hi
    isplitl [Hv]; · iexact Hv
    isplitl [Hc0 Hw0]; · isplitl [Hc0]; · iexact Hc0
                         iexact Hw0
    isplitl [Hc1 Hw1]; · isplitl [Hc1]; · iexact Hc1
                         iexact Hw1
    isplitl [Hc2 Hw2]; · isplitl [Hc2]; · iexact Hc2
                         iexact Hw2
    isplitl [Hc3 Hw3]; · isplitl [Hc3]; · iexact Hc3
                         iexact Hw3
    isplitl [Ho']; · iexact Ho'
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HsA]; · iexact HsA
    isplitl [HsB]; · iexact HsB
    isplitl [Hr0]; · iexact Hr0
    isplitl [Hr1]; · iexact Hr1
    isplitl [Hr2]; · iexact Hr2
    isplitl [HO]; · iexact HO
    iexact Hmw
  iapply (wp_wand frame (wpE (defs₀ (F := F)) 𝒱₀ (thr d L) none) Set.univ) $$ HT
  iintro %a ⟨Hi, Hv, ⟨Hc0, Hw0⟩, ⟨Hc1, Hw1⟩, ⟨Hc2, Hw2⟩, ⟨Hc3, Hw3⟩, Ho, H7, H8, H9, H10, H11, H12, H13, H14, HsA, HsB, Hr0, Hr1, Hr2, HO⟩
  isplitl [Hi Hv Hc0 Hw0 Hc1 Hw1 Hc2 Hw2 Hc3 Hw3 Kc Kw Ho]
  · isplitl [Hi Hv Hc0 Hw0 Hc1 Hw1 Hc2 Hw2 Hc3 Hw3 Kc Kw]
    · isplitl [Hi]; · iexact Hi
      isplitl [Hv]; · iexact Hv
      isplitl [Hc0 Hc1 Hc2 Hc3 Kc]
      · iapply Kc $$ [Hc0 Hc1 Hc2 Hc3]
        isplitl [Hc0]; · iexact Hc0
        isplitl [Hc1]; · iexact Hc1
        isplitl [Hc2]; · iexact Hc2
        iexact Hc3
      · iapply Kw $$ [Hw0 Hw1 Hw2 Hw3]
        isplitl [Hw0]; · iexact Hw0
        isplitl [Hw1]; · iexact Hw1
        isplitl [Hw2]; · iexact Hw2
        iexact Hw3
    · iapply (Entails.of_eq (pts_oWin (F := F) d L _)); iexact Ho
  isplitl [H7 H8 H9 H10 H11 H12 H13 H14 Hbufs]
  · isplitl [H7 H8 H9 H10 H11 H12 H13 H14]
    · isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iexact Hbufs
  isplitl [HsA HsB Hr0 Hr1 Hr2 Hsems]
  · isplitl [HsA HsB Hr0 Hr1 Hr2]
    · isplitl [HsA]; · iexact HsA
      isplitl [HsB]; · iexact HsB
      isplitl [Hr0]; · iexact Hr0
      isplitl [Hr1]; · iexact Hr1
      iexact Hr2
    · iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_scores_body (coordsV c s)
          iV (Memref.isWhole_whole _) vV (Memref.isWhole_whole _) cVm (Memref.isWhole_whole _) wVm (Memref.isWhole_whole _)
          oV (Memref.isWhole_whole _) qdM (Memref.isWhole_whole _) qiM (Memref.isWhole_whole _) qvM (Memref.isWhole_whole _)
          cb0 (Memref.isWhole_whole _) cb1 (Memref.isWhole_whole _) wb0 (Memref.isWhole_whole _) wb1 (Memref.isWhole_whole _) obM (Memref.isWhole_whole _)
          cc0_scratch8 cc0_scratch9 cc0_scoped0 cc0_scoped1 cc0_scoped2) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre _ O W hO).trans (wp_mono frame _ _ fun _ => obl_post)

/-! ## A SparseCore's share among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem deal16 {ℓ : Loc nD τ sig} (q : PosShare TreeShare) (f : Buf (Elt F) ℓ) :
    (ℓ ↦{q} f : sProp 𝕄) = bigSep Finset.univ fun i : Fin 16 => ℓ ↦{Transfers.dealOf q Finset.univ i} f :=
  Transfers.pointsTo_deal Finset.univ ⟨0, Finset.mem_univ _⟩ q

theorem inPts_deal (q : PosShare TreeShare) :
    (inPts m d q : sProp 𝕄) = bigSep Finset.univ fun i : Fin 16 => inPts m d (Transfers.dealOf q Finset.univ i) := by
  unfold inPts
  rw [bigSep_sep', bigSep_sep', bigSep_sep', ← deal16, ← deal16, ← deal16, ← deal16]

theorem vecSplit : (K (F := F)).VecSplit' (P m) 0 := by
  intro d c
  show iprop(inPts m d (coreSh (Fin.cast nCore_zero c)) ∗ coreRows d (Fin.cast nCore_zero c) (m (oLoc d))) ⊢ |={Set.univ}=> iprop(
      (bigSep Finset.univ fun i : Fin ((K (F := F)).nSub 0) =>
        iprop(inPts m d (subSh (Fin.cast nCore_zero c) (Fin.cast nSub_zero i)) ∗ oRowPts d (blk (Fin.cast nCore_zero c) (Fin.cast nSub_zero i)) (m (oLoc d))))
      ∗ ((bigSep Finset.univ fun i : Fin ((K (F := F)).nSub 0) =>
          iprop(inPts m d (subSh (Fin.cast nCore_zero c) (Fin.cast nSub_zero i)) ∗ oRowPts d (blk (Fin.cast nCore_zero c) (Fin.cast nSub_zero i)) (G m d)))
          -∗ iprop(inPts m d (coreSh (Fin.cast nCore_zero c)) ∗ coreRows d (Fin.cast nCore_zero c) (G m d))))
  have key (f : Buf (Elt F) (oLoc d)) :
      (bigSep Finset.univ fun i : Fin 16 => iprop(inPts m d (subSh (Fin.cast nCore_zero c) i) ∗ oRowPts d (blk (Fin.cast nCore_zero c) i) f) : sProp 𝕄)
        = iprop((bigSep Finset.univ fun i : Fin 16 => inPts m d (subSh (Fin.cast nCore_zero c) i)) ∗ coreRows d (Fin.cast nCore_zero c) f) :=
    bigSep_sep' ..
  rw [bigSep_tasks (F := F) (fun i => iprop(inPts m d (subSh (Fin.cast nCore_zero c) i) ∗ oRowPts d (blk (Fin.cast nCore_zero c) i) (m (oLoc d)))),
    bigSep_tasks (F := F) (fun i => iprop(inPts m d (subSh (Fin.cast nCore_zero c) i) ∗ oRowPts d (blk (Fin.cast nCore_zero c) i) (G m d))),
    key, key, inPts_deal m d (coreSh (Fin.cast nCore_zero c))]
  iintro H; imodintro
  isplitl [H]; · iexact H
  iintro H; iexact H

end Cert.Proof.Sc
-- ==== Proof.TopBody.lean ====
/-
  The second kernel's body: ten rounds, each of which takes the greatest score left, the least place that holds it,
  writes both into lane `i` of two accumulators, and overwrites that place with minus infinity. The printed body is
  unrolled; what it stores is, by unfolding, the rounds' own recursion run ten times.
-/
module

public import proofs.«01_k».proof.Proof.Setup
public import proofs.«01_k».proof.Proof.Gen.KernelIdeal.Skeleton

@[expose] public section

set_option maxRecDepth 65536

noncomputable section

namespace Cert.Proof.Sc

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## One round -/

/-- The greatest score. -/
def mxA (s : FVec F S128x128 .f32) : FVec F S1 .f32 :=
  multiReduction .maximumf [1, 2] S1 (shapeCast S1x128x128 s shapeCasts_S128x128_S1x128x128) 0xFF800000#32 reduces_S1x128x128_S1 (.inl rfl) rfl
def mx1 (a : FVec F S1 .f32) : FVec F S1x1 .f32 :=
  broadcast S1x1 (extractAt ![0, 0, 0] (shapeCast S1x1x1 a shapeCasts_S1_S1x1x1) inpos_S1x1x1_p0_0_0 : F .f32)
def mxv (s : FVec F S128x128 .f32) : FVec F S1x1 .f32 := mx1 (mxA s)

/-- Each place's own number where the greatest score is, a great number elsewhere; and the least of those. -/
def pick (s : FVec F S128x128 .f32) : IVec S128x128 32 :=
  select (cmpf .oeq s (broadcastTo S128x128 (mxv s) broadcasts_S1x1_S128x128)) k1_pay2 (broadcast S128x128 1073741824#32)
def ix0 (p : IVec S1x128x128 32) : IVec S1x1 32 :=
  broadcast S1x1 (extractAt ![0, 0, 0] (shapeCast S1x1x1 (multiReductionI .minsi [1, 2] S1 p 2147483647#32 reduces_S1x128x128_S1 rfl) shapeCasts_S1_S1x1x1) inpos_S1x1x1_p0_0_0 : BitVec 32)
def ix1 (p : IVec S128x128 32) : IVec S1x1 32 := ix0 (shapeCast S1x128x128 p shapeCasts_S128x128_S1x128x128)
def ixv (s : FVec F S128x128 .f32) : IVec S1x1 32 := ix1 (pick s)

/-- The scores with that place overwritten. -/
def nxtI (i : IVec S1x1 32) (s : FVec F S128x128 .f32) : FVec F S128x128 .f32 :=
  select (cmpi .eq k1_pay2 (broadcastTo S128x128 i broadcasts_S1x1_S128x128)) (broadcast S128x128 (Scalar.ofBits .f32 0xFF800000#32)) s
def nxt (s : FVec F S128x128 .f32) : FVec F S128x128 .f32 := nxtI (ixv s) s

/-- The lanes' own numbers, and an accumulator with lane `i` overwritten. -/
def lane : IVec S1x128 32 := iota .tc S1x128 32 [1] iota_S1x128_d1_w32
def putV (i : BitVec 32) (x : FVec F S1x1 .f32) (acc : FVec F S1x128 .f32) : FVec F S1x128 .f32 :=
  select (cmpi .eq lane (broadcast S1x128 i)) (broadcastTo S1x128 (shapeCast S1x1 x shapeCasts_S1x1_S1x1) broadcasts_S1x1_S1x128) acc
def putI (i : BitVec 32) (x : IVec S1x1 32) (acc : IVec S1x128 32) : IVec S1x128 32 :=
  select (cmpi .eq lane (broadcast S1x128 i)) (broadcastTo S1x128 (shapeCast S1x1 x shapeCasts_S1x1_S1x1) broadcasts_S1x1_S1x128) acc

/-! ## The rounds -/

/-- The scores after `n` rounds, and the two accumulators. -/
def sAt (s : FVec F S128x128 .f32) : ℕ → FVec F S128x128 .f32
  | 0 => s
  | n + 1 => nxt (sAt s n)
def vAt (s : FVec F S128x128 .f32) : ℕ → FVec F S1x128 .f32
  | 0 => broadcast S1x128 (Scalar.ofBits .f32 0x00000000#32 : F .f32)
  | n + 1 => putV (BitVec.ofNat 32 n) (mxv (sAt s n)) (vAt s n)
def iAt (s : FVec F S128x128 .f32) : ℕ → IVec S1x128 32
  | 0 => broadcast S1x128 0#32
  | n + 1 => putI (BitVec.ofNat 32 n) (ixv (sAt s n)) (iAt s n)

/-- What the body stores. -/
def topV (s : FVec F S128x128 .f32) : FVec F S10 .f32 :=
  shapeCast S10 (extractStridedSlice S1x10 ![0, 0] (vAt s 10) slices_S1x128_o0_0_S1x10) shapeCasts_S1x10_S10
def topI (s : FVec F S128x128 .f32) : IVec S10 32 :=
  shapeCast S10 (extractStridedSlice S1x10 ![0, 0] (iAt s 10) slices_S1x128_o0_0_S1x10) shapeCasts_S1x10_S10

/-! ## The body's run -/

local notation "𝕄" => MT nD τ sig (HIx 1) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem body_run (c : Dev nD) (f0 : Bf (F := F) c (stage1_0 0)) (f1 : Bf (F := F) c (stage1_1 0)) (f2 : Bf (F := F) c (stage1_2 0))
    (E : Set ℕ) (Q : PUnit → sProp 𝕄) :
    iprop(pt c (stage1_0 0) f0 ∗ pt c (stage1_1 0) f1 ∗ pt c (stage1_2 0) f2
        ∗ (iprop(pt c (stage1_0 0) f0 ∗ pt c (stage1_1 0) (topV (k1_pay1 f0)) ∗ pt c (stage1_2 0) (topI (k1_pay1 f0))) -∗ Q ⟨⟩))
      ⊢ wp frame (wpE (defs₀ (F := F)) Variants.none c none) E
          (cc1__topk_body (stage1_0 0) (hstage1_0 0) (stage1_1 0) (hstage1_1 0) (stage1_2 0) (hstage1_2 0)) Q := by
  rw [cc1__topk_body_eq_skeleton]
  unfold cc1__topk_body_skel
  rw [k1_part1_eq_skeleton, k1_part2_eq_skeleton, k1_part3_eq_skeleton, k1_part4_eq_skeleton, k1_part5_eq_skeleton, k1_part6_eq_skeleton]
  iintro ⟨H0, H1, H2, Hk⟩
  sl_exec!
  have hx : View.readAt (Elt F) (stage1_0 0).view (Rect.unit ![0, 0] S128x128.size inb_S128x128_S128x128_0_0).toLoadRect f0 = f0 := by
    exact Memref.readAt_unit_zero (Elt F) cc1_stg0_0 (off := ![0, 0]) (by funext a; match a with | 0 => rfl | 1 => rfl) _ f0
  have e1 : (stage1_1 0).view.writes (Elt F) (stage1_1 0).view.junk (body_run.sl.H1_1 c f0) = topV (k1_pay1 f0) := by
    have e : body_run.sl.H1_1 c f0 = [⟨Rect.unit ![0] S10.size inb_S10_S10_0, topV (k1_pay1 (View.readAt (Elt F) (stage1_0 0).view (Rect.unit ![0, 0] S128x128.size inb_S128x128_S128x128_0_0).toLoadRect f0))⟩] := rfl
    rw [e, hx]
    exact Memref.write_access_unit_zero_univ (Elt F) cc1_stg1_0 (off := ![0]) (by funext a; match a with | 0 => rfl) inb_S10_S10_0 (stage1_1 0).view.junk (topV (k1_pay1 f0))
  have e2 : (stage1_2 0).view.writes (Elt F) (stage1_2 0).view.junk (body_run.sl.H2_1 c f0) = topI (k1_pay1 f0) := by
    have e : body_run.sl.H2_1 c f0 = [⟨Rect.unit ![0] S10.size inb_S10_S10_0, topI (k1_pay1 (View.readAt (Elt F) (stage1_0 0).view (Rect.unit ![0, 0] S128x128.size inb_S128x128_S128x128_0_0).toLoadRect f0))⟩] := rfl
    rw [e, hx]
    exact Memref.write_access_unit_zero_univ (Elt F) cc1_stg2_0 (off := ![0]) (by funext a; match a with | 0 => rfl) inb_S10_S10_0 (stage1_2 0).view.junk (topI (k1_pay1 f0))
  rw [e1, e2]
  sl_step
  iapply Hk
  isplitl [H0]; · iexact H0
  isplitl [H1]; · iexact H1
  iexact H2

end Cert.Proof.Sc

end
-- ==== Proof.Region.lean ====
/-
  The second kernel's call in @main: its one window of scores fetched whole, its two results written back whole. The
  call is entered from any contents of the arrays, and leaves the two results at the ten rounds' values of the scores.
-/
module

public import proofs.«01_k».proof.Proof.TopBody
public import proofs.«01_k».proof.Proof.Gen.KernelIdeal.Points
public import Idealize.ShloMosaic.Lib.Pipeline.RegionsLoop
public import Idealize.ShloMosaic.Lib.Pipeline.ValueKit.Geometry

@[expose] public section

set_option maxRecDepth 16384

noncomputable section

namespace Cert.Proof.Sc

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The index the staging cells' credit bears: below every handshake's. -/
abbrev ι₀ : HIx 1 := none

variable (W : (c : Dev nD) → (b : Ref sig .tc) → Buf (Elt F) ((c : Thread nD τ).loc b))

/-- The scores' block as the fetch stages it. -/
abbrev stg (c : Dev nD) : (cfg1.win 0).block.Idx → Elt F (cfg1.win 0).elt :=
  ((cfg1.win 0).blk t1_0).view.read (Elt F) (W c main_v3)

/-- The pairs the core's waits may have recorded: at or below the handshakes' last level. -/
abbrev recd (c : Dev nD) : Set (SemLoc sig × HIx 1) := {p | (K (F := F)).lev (T c, p.1) p.2 ≤ 8}

/-- The proof data of the call: the arrays at `W`, the results' staging buffers at the ten rounds' values after the
    body, nothing owed. -/
def dat (c : Dev nD) : Dat τ (Elt F) (HIx 1) ℕ UU ℕ cfg1 c where
  A w := W c (Pipeline.arrRef spec1 w)
  after w _ := match w with
    | ⟨0, _⟩ => stg W c
    | ⟨1, _⟩ => topV (k1_pay1 (stg W c))
    | ⟨2, _⟩ => topI (k1_pay1 (stg W c))
  Φ _ := Pipeline.scopedRest spec1 c
  q _ := fullShare
  owed _ := 0
  recorded _ := recd (F := F) c

abbrev adm : (p : Fin 1) → (pcfgs (F := F) p).Adm := fun q => (cfgs q).toPCfg_adm

def pdats : (p : Fin 1) → (c : Dev nD) → Dat τ (Elt F) (HIx 1) ℕ UU ℕ (Pipeline.pin (pcfgs (F := F)) adm p) c
  | ⟨0, _⟩ => fun c => dat W c

theorem before_in (c : Dev nD) (d : (cfg1.win 0).block.Idx → Elt F (cfg1.win 0).elt) : (dat W c).before 0 t1_0 d = stg W c := by
  unfold Dat.before; rw [if_pos (by decide)]; rfl

theorem body_obligation (c : Dev nD) : BodyObligation (dat W c) (defs₀ (F := F)) 𝒱₀ ι₀ Set.univ := fun t => by
  obtain rfl := fin_N1 t
  rw [bigSep_W1, bigSep_W1]
  simp only [owns_whole_eq]
  rw [show (dat W c).Φ t1_0.castSucc = (dat W c).Φ t1_0.succ from rfl,
    show (dat W c).owesAt ι₀ t1_0.succ = (dat W c).owesAt ι₀ t1_0.castSucc from rfl]
  iintro ⟨HΦ, Howes, ⟨%d0, %f0, %hf0, H0⟩, ⟨%d1, %f1, -, H1⟩, ⟨%d2, %f2, -, H2⟩⟩
  rw [before_in] at hf0
  subst hf0
  iapply (body_run c _ f1 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The arrays after the call -/

theorem stg_eq (c : Dev nD) : stg W c = W c main_v3 := by
  funext j
  exact congrArg (W c main_v3) (by
    funext a
    apply Fin.ext
    show ((((cfg1.win 0).rect t1_0).emb j) a : ℕ) = (j a : ℕ)
    exact Window.rect_emb_val_of_index_zero (cfg1.win 0) t1_0 a rfl j)

theorem final_v (c : Dev nD) : (dat W c).arrAt 1 cfg1.N = topV (k1_pay1 (W c main_v3)) := by
  rw [← stg_eq W c]
  exact (dat W c).arrAt_eq_of_after_last 1 t1_0 (by decide +kernel) _ (fun j => rfl)
theorem final_i (c : Dev nD) : (dat W c).arrAt 2 cfg1.N = topI (k1_pay1 (W c main_v3)) := by
  rw [← stg_eq W c]
  exact (dat W c).arrAt_eq_of_after_last 2 t1_0 (by decide +kernel) _ (fun j => rfl)

/-! ## The region -/

variable (W' : (c : Dev nD) → (b : Ref sig .tc) → Buf (Elt F) ((c : Thread nD τ).loc b))

/-- What the core owes around the call: nothing, its recorded pairs bounded. -/
abbrev owe0 (c : Dev nD) : sProp 𝕄 := iprop(∃ R, ⌜(K (F := F)).WBelow (T c) R 8⌝ ∗ owes (T c) (0 : CellTallies nD τ sig (HIx 1)) R)

theorem owesAt_eq (c : Dev nD) (t : Fin (cfg1.N + 1)) : (dat W c).owesAt ι₀ t ⊢ owe0 (F := F) c := by
  unfold Pipeline.Dat.owesAt Pipeline.owesWithin
  iintro ⟨%R, %hR, HO⟩
  iexists R; isplitr
  · ipureintro
    intro p hp
    rcases hR hp with h | h
    · exact h
    · obtain ⟨w, s, rfl⟩ := h
      exact Nat.zero_le _
  iexact HO

set_option backward.isDefEq.respectTransparency.types false in
def reg (h1 : ∀ c, W' c main_v4_0 = topV (k1_pay1 (W c main_v3))) (h2 : ∀ c, W' c main_v4_1 = topI (k1_pay1 (W c main_v3)))
    (hne : ∀ c (b : Ref sig .tc), b ≠ main_v4_0 → b ≠ main_v4_1 → W' c b = W c b) :
    Pipeline.RegionSeg (pcfgs (F := F)) adm (pdats W) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ owe0 (F := F) c)
  post c := iprop(unscopedBufs c (W' c) ∗ owe0 (F := F) c)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W) launch1.win launch1.arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%R, %hR, HO⟩; iexists R; isplitr; · ipureintro; exact fun p hp => Or.inl (hR p hp)
      iexact HO
    isplitr; · iempintro
    iexact Hrest
  hin c := by
    rw [show (pdats W 0 c).Φ 0 = Pipeline.scopedRest spec1 c from rfl]
    iintro ⟨-, -, Hr⟩; iexact Hr
  hout c := by
    rw [Pipeline.ownSems0_none, show (pdats W 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats W) ((pdats W 0 c).share_full fun _ => rfl) (W c) (W' c) ((pdats W 0 c).arrAt · cfg1.N)
      (fun w => by
        fin_cases w
        · exact ((pdats W 0 c).arrAt_in 0 rfl _).trans (hne c main_v3 (by decide) (by decide)).symm
        · exact (final_v W c).trans (h1 c).symm
        · exact (final_i W c).trans (h2 c).symm)
      (fun b hb => hne c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    iapply (show (pdats W 0 c).owesAt ι₀ (Fin.last (Pipeline.pin (pcfgs (F := F)) adm 0).N) ⊢ owe0 (F := F) c
      from owesAt_eq W c (Fin.last cfg1.N)) $$ HO

end Cert.Proof.Sc

end
-- ==== Proof.Launch.lean ====
/-
  The program's run: @main reshapes the query's operands, starts the score kernel on the two SparseCores and waits for
  it, reshapes the scores, and calls the second kernel. Every buffer of @main is followed by a valuation of all eleven;
  at the first call the four inputs are dealt to the SparseCores by shares and the scores by blocks.
-/
module

public import proofs.«01_k».proof.Proof.Obl
public import proofs.«01_k».proof.Proof.Region

@[expose] public section

set_option maxRecDepth 16384

noncomputable section

namespace Cert.Proof.Sc

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The SparseCore call's operands, whole and dealt -/

theorem orowSet_eq (i : Fin 32) : oRowSet i = (orow i).set := by
  show ((View.whole (main_v2_scv : Ref sig .scVector)).slice (orow i)).set = _
  rw [View.set_slice]; exact Finset.map_refl
theorem orows_disjoint : ∀ i ∈ (Finset.univ : Finset (Fin 32)), ∀ j ∈ (Finset.univ : Finset (Fin 32)), i ≠ j → Disjoint (oRowSet i) (oRowSet j) :=
  fun i _ j _ h => by rw [orowSet_eq, orowSet_eq]; exact Rect.part_disjoint odiv h
theorem orows_cover : (Finset.univ : Finset (Fin 32)).biUnion oRowSet = Finset.univ :=
  (Finset.biUnion_congr rfl fun i _ => orowSet_eq i).trans (Rect.biUnion_part odiv)

/-- The 32 blocks as pairs of a SparseCore and a subcore. -/
def blkE : Fin 2 × Fin 16 ≃ Fin 32 where
  toFun x := blk x.1 x.2
  invFun i := (⟨i.val % 2, by omega⟩, ⟨i.val / 2, by omega⟩)
  left_inv x := by
    obtain ⟨c, s⟩ := x
    simp only [blk, Prod.mk.injEq, Fin.ext_iff]; omega
  right_inv i := by simp only [blk, Fin.ext_iff]; omega

theorem oPts_rows (d : Dev nD) (f : Buf (Elt F) (oLoc d)) :
    (oLoc d ↦{fullShare} f : sProp 𝕄) = bigSep Finset.univ fun c : Fin 2 => coreRows d c f := by
  have e : (oLoc d ↦{fullShare} f : sProp 𝕄) = bigSep Finset.univ fun i : Fin 32 => oRowPts d i f := by
    rw [← pointsTo_biUnion Finset.univ (ℓ := oLoc d) oRowSet orows_disjoint, orows_cover]; try rfl
  rw [e, bigSep_univ_equiv blkE, bigSep_univ_prod]
  rfl

theorem deal2 {ℓ : Loc nD τ sig} (f : Buf (Elt F) ℓ) :
    (ℓ ↦{fullShare} f : sProp 𝕄) = bigSep Finset.univ fun i : Fin 2 => ℓ ↦{coreSh i} f :=
  Transfers.pointsTo_deal Finset.univ ⟨0, Finset.mem_univ _⟩ fullShare

theorem inPts_deal2 (d : Dev nD) : (inPts m d fullShare : sProp 𝕄) = bigSep Finset.univ fun i : Fin 2 => inPts m d (coreSh i) := by
  unfold inPts
  rw [bigSep_sep', bigSep_sep', bigSep_sep', ← deal2, ← deal2, ← deal2, ← deal2]

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem cores_eq (d : Dev nD) (f : Buf (Elt F) (oLoc d)) :
    (bigSep Finset.univ fun c : Fin ((K (F := F)).nCore 0) =>
        iprop(inPts m d (coreSh (Fin.cast nCore_zero c)) ∗ coreRows d (Fin.cast nCore_zero c) f))
      = iprop(inPts m d fullShare ∗ (oLoc d ↦{fullShare} f)) := by
  rw [bigSep_cores (F := F) fun c => iprop(inPts m d (coreSh c) ∗ coreRows d c f),
    bigSep_sep' Finset.univ (fun c : Fin 2 => inPts m d (coreSh c)) (fun c => coreRows d c f), ← inPts_deal2, ← oPts_rows]

theorem st0_eq (d : Dev nD) : (bigSep Finset.univ fun c : Fin ((K (F := F)).nCore 0) => (P m).st 0 d c)
    = iprop(inPts m d fullShare ∗ (oLoc d ↦{fullShare} m (oLoc d))) := cores_eq m d _
theorem dn0_eq (d : Dev nD) : (bigSep Finset.univ fun c : Fin ((K (F := F)).nCore 0) => (P m).dn 0 d c)
    = iprop(inPts m d fullShare ∗ (oLoc d ↦{fullShare} G m d)) := cores_eq m d _

/-! ## The launch element of the certificate's ghost state -/

abbrev hinj := cellOf_inj

def u₀ : UU := (initOf (K (F := F)).hsCells (K (F := F)).hsToks,
  (initOf (Pipeline.cells (nD := nD) (τ := τ) cfgs hinj) (Pipeline.launchToks (nD := nD) (τ := τ) cfgs hinj), 1))

/-- What @main is handed beside its own state: the second kernel's staging cells' rounds. -/
abbrev X (d : Dev nD) : sProp 𝕄 := iprop(Pipeline.cellsGhost (τ := τ) cfgs EP 0 d ∗ Pipeline.toksInit (τ := τ) cfgs EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => X (F := F) d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (show BI.own (embR (nD := nD) (τ := τ) (sig := sig) (Ix := HIx 1) (Val := Elt F) (Name := ℕ) (Lvl := ℕ) (A := UH)
        ((initOf (Pipeline.cells (nD := nD) (τ := τ) cfgs hinj) (Pipeline.launchToks (nD := nD) (τ := τ) cfgs hinj), 1) : UP × Counters))
      ⊢ (BI.own (EP (initOf (Pipeline.cells (nD := nD) (τ := τ) cfgs hinj) (Pipeline.launchToks (nD := nD) (τ := τ) cfgs hinj))) : sProp 𝕄)
      from BI.Entails.refl _) $$ HP
  imod (Pipeline.fund_ghost cfgs EP hinj) $$ HP' with ⟨Hg, Ht⟩
  imodintro
  isplitl [HH]; · iexact HH
  isplitl [Hg Ht]
  · rw [bigSep_sep' Finset.univ (fun d : Dev nD => (Pipeline.cellsGhost (τ := τ) cfgs EP 0 d : sProp 𝕄)) fun d => Pipeline.toksInit (τ := τ) cfgs EP 0 d]
    rw [show (fun c : Dev nD => bigSep Finset.univ fun p : Fin 1 => (Pipeline.cellsGhost (τ := τ) cfgs EP p c : sProp 𝕄)) = fun c => Pipeline.cellsGhost cfgs EP 0 c from
        funext fun c => bigSep_univ_of_subsingleton (0 : Fin 1),
      show (fun c : Dev nD => bigSep Finset.univ fun p : Fin 1 => (Pipeline.toksInit (τ := τ) cfgs EP p c : sProp 𝕄)) = fun c => Pipeline.toksInit cfgs EP 0 c from
        funext fun c => bigSep_univ_of_subsingleton (0 : Fin 1)]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main's buffers, by a valuation -/

abbrev dr (b : Ref sig .tc) : DevRef τ sig := Proc.devRef .tc b

/-- @main's eleven buffers, the call's five first. -/
abbrev S11 : Finset (DevRef τ sig) :=
  {dr main_v0, dr main_v1, dr main_arg3, dr main_arg4, dr main_v2, dr main_arg0, dr main_arg1, dr main_arg2, dr main_v3, dr main_v4_0, dr main_v4_1}

theorem held_S11 (d : Dev nD) (W : Valuation τ sig (Elt F)) :
    (held (T d) S11 W : sProp 𝕄)
      = iprop((iLoc d ↦{fullShare} W (dr main_v0)) ∗ (vLoc d ↦{fullShare} W (dr main_v1)) ∗ (cLoc d ↦{fullShare} W (dr main_arg3))
        ∗ (wLoc d ↦{fullShare} W (dr main_arg4)) ∗ (oLoc d ↦{fullShare} W (dr main_v2)) ∗ (a0Loc d ↦{fullShare} W (dr main_arg0))
        ∗ (a1Loc d ↦{fullShare} W (dr main_arg1)) ∗ (a2Loc d ↦{fullShare} W (dr main_arg2)) ∗ (sLoc d ↦{fullShare} W (dr main_v3))
        ∗ (tLoc d ↦{fullShare} W (dr main_v4_0)) ∗ (uLoc d ↦{fullShare} W (dr main_v4_1))) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) (W : Valuation τ sig (Elt F)) : (unscopedBufs d (fun b => W (dr b)) : sProp 𝕄) = held (T d) S11 W := by
  rw [held_S11]
  unfold unscopedBufs
  rw [show (Finset.univ.filter fun b : Ref sig .tc => ¬ b.isScoped) = {main_v0, main_v1, main_arg3, main_arg4, main_v2, main_arg0, main_arg1,
      main_arg2, main_v3, main_v4_0, main_v4_1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

abbrev op1 : HloOp τ sig (Elt F) := StableHlo.reshape main_arg0 main_v0 (rfl : (.i32 : EltTy) = .i32) shapeCasts_S1x128_S128
abbrev op2 : HloOp τ sig (Elt F) := StableHlo.reshape main_arg1 main_v1 (rfl : (.f32 : EltTy) = .f32) shapeCasts_S1x128_S128
abbrev op3 : HloOp τ sig (Elt F) := StableHlo.reshape main_v2 main_v3 (rfl : (.f32 : EltTy) = .f32) shapeCasts_S16384_S128x128

theorem h1 : (op1 (F := F)).bufs ⊆ S11 := show ({dr main_arg0, dr main_v0} : Finset (DevRef τ sig)) ⊆ S11 by decide
theorem h2 : (op2 (F := F)).bufs ⊆ S11 := show ({dr main_arg1, dr main_v1} : Finset (DevRef τ sig)) ⊆ S11 by decide
theorem h3 : (op3 (F := F)).bufs ⊆ S11 := show ({dr main_v2, dr main_v3} : Finset (DevRef τ sig)) ⊆ S11 by decide

/-- At launch; after the two reshapes; after the first call; after the third reshape; after the second call. -/
def V0 (d : Dev nD) : Valuation τ sig (Elt F) := fun b => m (d, b)
def V2 (d : Dev nD) : Valuation τ sig (Elt F) := (op2 (F := F)).result ((op1 (F := F)).result (V0 m d))
def V3 (d : Dev nD) : Valuation τ sig (Elt F) := Function.update (V2 m d) (dr main_v2) (G m d)
def V4 (d : Dev nD) : Valuation τ sig (Elt F) := (op3 (F := F)).result (V3 m d)
def V5 (d : Dev nD) : Valuation τ sig (Elt F) :=
  Function.update (Function.update (V4 m d) (dr main_v4_0) (topV (k1_pay1 (V4 m d (dr main_v3))))) (dr main_v4_1) (topI (k1_pay1 (V4 m d (dr main_v3))))

theorem V2_ne (d : Dev nD) (b : Ref sig .tc) (h0 : b ≠ main_v0) (h1 : b ≠ main_v1) : V2 m d (dr b) = m ((SparseCore.T d).loc b) := by
  unfold V2 op1 op2
  rw [StableHlo.reshape_result_ne _ _ _ _ _ _ _ h1, StableHlo.reshape_result_ne _ _ _ _ _ _ _ h0]
  rfl
theorem V2_v0 (d : Dev nD) : V2 m d (dr main_v0) = qi m d := by
  unfold V2 op1 op2
  rw [StableHlo.reshape_result_ne _ _ _ _ _ _ _ (by decide), StableHlo.reshape_result]
  rfl
theorem V2_v1 (d : Dev nD) : V2 m d (dr main_v1) = qv m d := by
  unfold V2 op1 op2
  rw [StableHlo.reshape_result, StableHlo.reshape_result_ne _ _ _ _ _ _ _ (by decide)]
  rfl

theorem V3_v2 (d : Dev nD) : V3 m d (dr main_v2) = G m d := Function.update_self _ _ _
theorem V3_ne (d : Dev nD) (b : Ref sig .tc) (h : dr b ≠ dr main_v2) : V3 m d (dr b) = V2 m d (dr b) := Function.update_of_ne h _ _

theorem held_V2 (d : Dev nD) : (held (T d) S11 (V2 m d) : sProp 𝕄)
    ⊢ iprop((inPts m d fullShare ∗ (oLoc d ↦{fullShare} m (oLoc d)))
        ∗ ((inPts m d fullShare ∗ (oLoc d ↦{fullShare} G m d)) -∗ held (T d) S11 (V3 m d))) := by
  rw [held_S11, held_S11, V2_v0, V2_v1, V3_v2, V3_ne m d main_v0 (by decide), V3_ne m d main_v1 (by decide), V3_ne m d main_arg3 (by decide),
    V3_ne m d main_arg4 (by decide), V3_ne m d main_arg0 (by decide), V3_ne m d main_arg1 (by decide), V3_ne m d main_arg2 (by decide),
    V3_ne m d main_v3 (by decide), V3_ne m d main_v4_0 (by decide), V3_ne m d main_v4_1 (by decide), V2_v0, V2_v1,
    V2_ne m d main_arg3 (by decide) (by decide), V2_ne m d main_arg4 (by decide) (by decide), V2_ne m d main_v2 (by decide) (by decide)]
  iintro ⟨Hi, Hv, Hc, Hw, Ho, Hr⟩
  isplitl [Hi Hv Hc Hw Ho]
  · isplitr [Ho]
    · isplitl [Hi]; · iexact Hi
      isplitl [Hv]; · iexact Hv
      isplitl [Hc] <;> iassumption
    iexact Ho
  iintro ⟨⟨Hi, Hv, Hc, Hw⟩, Ho⟩
  isplitl [Hi]; · iexact Hi
  isplitl [Hv]; · iexact Hv
  isplitl [Hc]; · iexact Hc
  isplitl [Hw]; · iexact Hw
  isplitl [Ho] <;> iassumption

theorem V4_ne (d : Dev nD) (b : Ref sig .tc) (h : b ≠ main_v3) : V4 m d (dr b) = V3 m d (dr b) := by
  unfold V4 op3
  exact StableHlo.reshape_result_ne _ _ _ _ _ _ _ h
theorem V4_v3 (d : Dev nD) : V4 m d (dr main_v3) = shapeCast S128x128 (G m d) shapeCasts_S16384_S128x128 := by
  unfold V4 op3
  rw [StableHlo.reshape_result, V3_v2]
  rfl
theorem V5_ne (d : Dev nD) (b : Ref sig .tc) (h0 : b ≠ main_v4_0) (h1 : b ≠ main_v4_1) : V5 m d (dr b) = V4 m d (dr b) := by
  unfold V5
  rw [Function.update_of_ne (fun e => h1 (Proc.devRef_injective _ e)), Function.update_of_ne (fun e => h0 (Proc.devRef_injective _ e))]
theorem V5_t (d : Dev nD) : V5 m d (dr main_v4_0) = topV (k1_pay1 (V4 m d (dr main_v3))) :=
  (Function.update_of_ne (show dr main_v4_0 ≠ dr main_v4_1 by decide) _ _).trans (Function.update_self _ _ _)
theorem V5_u (d : Dev nD) : V5 m d (dr main_v4_1) = topI (k1_pay1 (V4 m d (dr main_v3))) := Function.update_self _ _ _
theorem V5_arg (d : Dev nD) (b : Ref sig .tc) (h : dr b ∉ ({dr main_v0, dr main_v1, dr main_v2, dr main_v3, dr main_v4_0, dr main_v4_1} : Finset (DevRef τ sig))) :
    V5 m d (dr b) = m ((SparseCore.T d).loc b) := by
  have hn : ∀ b' : Ref sig .tc, dr b' ∈ ({dr main_v0, dr main_v1, dr main_v2, dr main_v3, dr main_v4_0, dr main_v4_1} : Finset (DevRef τ sig)) → b ≠ b' :=
    fun b' h' e => h (e ▸ h')
  rw [V5_ne m d b (hn _ (by decide)) (hn _ (by decide)), V4_ne m d b (hn _ (by decide)),
    V3_ne m d b (fun e => hn main_v2 (by decide) (Proc.devRef_injective _ e)), V2_ne m d b (hn _ (by decide)) (hn _ (by decide))]

/-! ## @main -/

/-- The second call's record, at @main's valuations. -/
abbrev R := reg (F := F) (fun d b => V4 m d (dr b)) (fun d b => V5 m d (dr b)) (fun d => V5_t m d) (fun d => V5_u m d)
  (fun d b h0 h1 => V5_ne m d b h0 h1)

/-- What @main ends with: every buffer, at the last valuation. -/
abbrev FIN (d : Dev nD) : sProp 𝕄 := held (T d) S11 (V5 m d)

/-- The TensorCore's state after the last call: what it owes, and the rest. -/
theorem tcSt_one (d : Dev nD) : ((K (F := F)).tcSt EH d 1 : sProp 𝕄) ⊢ iprop(owe0 (F := F) d ∗ (owe0 (F := F) d -∗ (K (F := F)).tcSt EH d 1)) := by
  unfold SparseCore.Cfg.tcSt owe0
  rw [(K (F := F)).Otc_end d (le_refl 1)]
  iintro ⟨Ho, Hr⟩
  isplitl [Ho]; · iexact Ho
  iintro Ho
  isplitl [Ho] <;> iassumption

/-- The second call, in the table of the first's calls. -/
theorem call_wp (κ : GSem nD τ sig → ℕ) (d : Dev nD) :
    iprop((K (F := F)).ctx EH (P m) κ ∗ boundary (T d) ∗ held (T d) S11 (V4 m d) ∗ owe0 (F := F) d ∗ X (F := F) d)
      ⊢ wp frame (wpE ((K (F := F)).defs (D (F := F))) 𝒱 (SparseCore.T d) none) Set.univ
          (Prog.lift (.customCall (SparseCore.inner (Pipeline.entry 0)) ()))
          fun _ => iprop(boundary (T d) ∗ held (T d) S11 (V5 m d) ∗ owe0 (F := F) d) := by
  change _ ⊢ wp frame (wpE ((K (F := F)).defs (D (F := F))) 𝒱 (SparseCore.T d) none) Set.univ
    (SparseCore.liftProg (Prog.lift (.customCall (Pipeline.entry 0) ()))) _
  iintro ⟨#Hctx, Hb, Hh, Ho, Hg, Ht⟩
  iapply ((K (F := F)).wp_liftProg (D (F := F)) 𝒱 (SparseCore.T d) Set.univ none (Prog.lift (.customCall (Pipeline.entry 0) ())) _)
  iapply (Pipeline.RegionSeg.wp (pcfgs (F := F)) adm (pdats _) ι₀ cellOf_inj EP defs₀ 𝒱₀ (K (F := F)).L (K (F := F)).lev (R m) d none (fun _ h => nomatch h) _ _)
  isplitr
  · iintro ⟨Hb, Hp⟩
    ihave Hp' := (show (R m).post d ⊢ iprop(unscopedBufs d (fun b => V5 m d (dr b)) ∗ owe0 (F := F) d) from Entails.refl _) $$ Hp
    icases Hp' with ⟨Hu, Ho⟩
    rw [wp_ret]; imodintro
    isplitl [Hb]; · iexact Hb
    isplitr [Ho]
    · iapply (Entails.of_eq (unscoped_held d (V5 m d))); iexact Hu
    iexact Ho
  isplitl [Hb]; · iexact Hb
  isplitl [Hh Ho]
  · iapply (show iprop(unscopedBufs d (fun b => V4 m d (dr b)) ∗ owe0 (F := F) d) ⊢ (R m).pre d from Entails.refl _)
    isplitl [Hh]
    · iapply (Entails.of_eq (unscoped_held d (V4 m d)).symm); iexact Hh
    iexact Ho
  isplitr
  · iapply ((K (F := F)).ctx_levAts κ); iexact Hctx
  isplitl [Hg] <;> iassumption

theorem hmain (κ : GSem nD τ sig → ℕ) (d : Dev nD) :
    iprop((K (F := F)).ctx EH (P m) κ ∗ (K (F := F)).tcSt EH d 0 ∗ (K (F := F)).tcRes m ρ d ∗ X (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) S11 (V0 m d) from unscoped_held d (V0 m d)]
  simp only [main, wp_bind, wp_pure]
  iintro ⟨#Hctx, Hst, ⟨Hb, Hheld, Hts, -⟩, HX⟩
  -- the query's operands, reshaped
  iapply (wp_hlo_within 𝒱 (SparseCore.T d) none Set.univ (op := op1) (S := S11) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S11) h2 (V := (op1 (F := F)).result (V0 m d))) $$ [Hb Hheld]
  · isplitl [Hb] <;> iassumption
  iintro ⟨Hb, Hheld⟩
  rw [wp_ret]; imodintro
  -- the first call
  ihave Hh := (show held (T d) S11 ((op2 (F := F)).result ((op1 (F := F)).result (V0 m d))) ⊢ _ from held_V2 (F := F) m d) $$ Hheld
  icases Hh with ⟨Hin, Hback⟩
  iapply ((K (F := F)).wp_run (D (F := F)) 𝒱 (EH := EH) (P := P m) κ d 0) $$ [Hst Hin Hback Hb Hts HX]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  ihave Hheld := Hback $$ Hdn'
  -- the scores, reshaped
  iapply (wp_hlo_within 𝒱 (SparseCore.T d) none Set.univ (op := op3) (S := S11) h3 (V := V3 m d)) $$ [Hb Hheld]
  · isplitl [Hb] <;> iassumption
  iintro ⟨Hb, Hheld⟩
  rw [wp_ret]; imodintro
  -- the second call
  ihave Hst' := (show (K (F := F)).tcSt EH d ((0 : Fin 1).val + 1) ⊢ _ from tcSt_one d) $$ Hst
  icases Hst' with ⟨Ho, Hst⟩
  iapply (wp_wand Idealize.ShloMosaic.frame (wpE ((K (F := F)).defs (D (F := F))) 𝒱 (SparseCore.T d) none) Set.univ) $$ [Hb Hheld Ho HX]
  · iapply (call_wp m κ d)
    isplitr; · iexact Hctx
    isplitl [Hb]; · iexact Hb
    isplitl [Hheld]; · iexact Hheld
    isplitl [Ho] <;> iassumption
  iintro %x ⟨Hb, Hheld, Ho⟩
  imodintro
  isplitl [Hst Ho]
  · iapply Hst; iexact Ho
  isplitl [Hheld]; · iexact Hheld
  isplitl [Hb] <;> iassumption

/-! ## The run -/

/-- Every one of @main's buffers at the last valuation. -/
abbrev fq (d : Dev nD) (s' : Phys nD τ sig (Elt F)) : Prop := ∀ b ∈ S11, s'.mem.mem (d, b) = V5 m d b

theorem hfin (d : Dev nD) (s' : Phys nD τ sig (Elt F)) : iprop(FIN m d ∗ SI s') ⊢ (⌜fq m d s'⌝ : sProp 𝕄) := by
  iintro ⟨Hh, HSI⟩
  iapply (SI_pointsTo_bufs_agree (st := s') (c := d) (qs := fun _ => fullShare) (F := V5 m d) S11)
  isplitl [HSI]; · iexact HSI
  iapply (show held (T d) S11 (V5 m d) ⊢ (bigSep S11 fun b => ((d, b) : Loc nD τ sig) ↦{fullShare} V5 m d b : sProp 𝕄) from Entails.refl _)
  iexact Hh

/-- What the run ends with. -/
def QC : PUnit × MemSt nD τ sig (Elt F) → Prop := fun r =>
  (∀ d : Dev nD, ∀ b ∈ S11, r.2.mem (d, b) = V5 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => X (F := F) d) (FIN m) (u₀ (F := F)) (sep_elim_left.trans (hu₀ m)) (hmain m ρ) (fq m) (hfin m) (QC m) (fun _ h hz => ⟨h, hz⟩)

end Cert.Proof.Sc

end
-- ==== Proof.Pre.lean ====
/-
  What the two preconditions say: every index names a row of the table; the row pointers are 164 times their own number;
  every value is neither infinity.
-/
module

public import proofs.«01_k».proof.Defs
public import proofs.«01_k».proof.Proof.Gen.Pre_in_range
public import proofs.«01_k».proof.Proof.Gen.Pre_valid
public import Idealize.ShloMosaic.Lib.ReduceAll

@[expose] public section

set_option maxRecDepth 16384

noncomputable section

namespace Cert.Proof

open Idealize.ShloMosaic

variable {F : FTy → Type} [FloatOps F]

theorem lt_of_range {v : BitVec 32} (e : IntOp.andi (IntOp.cmpi .sge v 0#32) (IntOp.cmpi .slt v 16384#32) = 1#1) : v.toNat < 16384 := by
  obtain ⟨e1, e2⟩ := IntOp.andi_eq_one.1 e
  have e1 := IntOp.cmpi_sge.1 e1
  have e2 := IntOp.cmpi_slt.1 e2
  simp only [BitVec.toInt_eq_toNat_cond, BitVec.toNat_ofNat] at e1 e2
  omega

theorem in_range_spec (a0 : IVec Pre_in_range.S1x128 32) (a1 : FVec F Pre_in_range.S1x128 .f32) (a2 : IVec Pre_in_range.S16385 32)
    (a3 : IVec Pre_in_range.S2686976 32) (a4 : FVec F Pre_in_range.S2686976 .f32)
    (h : Pre_in_range.fn (F := F) a0 a1 a2 a3 a4 = fun _ => 1#1) : (∀ j, (a0 j).toNat < 16384) ∧ ∀ j, (a3 j).toNat < 16384 := by
  have e := congrFun h (fun a => a.elim0)
  simp only [Pre_in_range.fn] at e
  obtain ⟨e1, e2⟩ := IntOp.andi_eq_one.1 (show IntOp.andi _ _ = 1#1 from e)
  exact ⟨fun j => lt_of_range (Host.reduce_andi_all _ _ _ _ _ e1 j), fun j => lt_of_range (Host.reduce_andi_all _ _ _ _ _ e2 j)⟩

/-- A value whose absolute value is below infinity is neither infinity. -/
theorem finite_of (x : Ideal .f32) (e : FloatOps.cmpf (F := Ideal) .olt (FloatOps.hostAbsf x) (FloatOps.ofBits (F := Ideal) .f32 0x7F800000#32) = 1#1) :
    (x : EReal) ≠ ⊥ ∧ (x : EReal) ≠ ⊤ := by
  have htop : Ideal.ofBits .f32 0x7F800000#32 = ⊤ := by simp [Ideal.ofBits, Ideal.ieee]
  have e' : Ideal.cmp .olt (max (x : EReal) (-(x : EReal))) (Ideal.ofBits .f32 0x7F800000#32) = 1#1 := e
  rw [htop] at e'
  have : max (x : EReal) (-(x : EReal)) < ⊤ := by
    by_contra hn
    simp [Ideal.cmp, hn] at e'
  constructor
  · intro hx; rw [hx] at this; simp at this
  · intro hx; rw [hx] at this; simp at this

theorem valid_spec (a0 : IVec Pre_valid.S1x128 32) (a1 : FVec Ideal Pre_valid.S1x128 .f32) (a2 : IVec Pre_valid.S16385 32)
    (a3 : IVec Pre_valid.S2686976 32) (a4 : FVec Ideal Pre_valid.S2686976 .f32)
    (h : Pre_valid.fn (F := Ideal) a0 a1 a2 a3 a4 = fun _ => 1#1) :
    ((∀ j, (a0 j).toNat < 16384) ∧ ∀ j, (a3 j).toNat < 16384) ∧ (∀ j, a2 j = BitVec.ofNat 32 (j 0).val * 164#32)
      ∧ (∀ j, (a1 j : EReal) ≠ ⊥ ∧ (a1 j : EReal) ≠ ⊤) ∧ ∀ j, (a4 j : EReal) ≠ ⊥ ∧ (a4 j : EReal) ≠ ⊤ := by
  have e := congrFun h (fun a => a.elim0)
  simp only [Pre_valid.fn, Pre_valid.fn_part1] at e
  obtain ⟨e, e4⟩ := IntOp.andi_eq_one.1 (show IntOp.andi _ _ = 1#1 from e)
  obtain ⟨e, e1⟩ := IntOp.andi_eq_one.1 (show IntOp.andi _ _ = 1#1 from e)
  obtain ⟨e, e2⟩ := IntOp.andi_eq_one.1 (show IntOp.andi _ _ = 1#1 from e)
  obtain ⟨e0, e3⟩ := IntOp.andi_eq_one.1 (show IntOp.andi _ _ = 1#1 from e)
  exact ⟨⟨fun j => lt_of_range (Host.reduce_andi_all _ _ _ _ _ e0 j), fun j => lt_of_range (Host.reduce_andi_all _ _ _ _ _ e3 j)⟩,
    fun j => IntOp.cmpi_eq.1 (Host.reduce_andi_all _ _ _ _ _ e2 j), fun j => finite_of _ (Host.reduce_andi_all _ _ _ _ _ e1 j),
    fun j => finite_of _ (Host.reduce_andi_all _ _ _ _ _ e4 j)⟩

end Cert.Proof

end
-- ==== Proof.Frames.lean ====
/-
  The frames: what @main's run leaves of the arguments and of the counters, for the kernel, its idealization and the
  reference.
-/
module

public import proofs.«01_k».proof.Proof.Launch
public import proofs.«01_k».proof.Proof.Pre
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem Cert.Proof.Sc

/-- Every argument of the kernel is held at its launch contents at the end. -/
theorem args_of_QC {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h.1 c (dr Cert.KernelIdeal.main_arg0) (by decide)).trans (V5_arg m c Cert.KernelIdeal.main_arg0 (by decide)),
    (h.1 c (dr Cert.KernelIdeal.main_arg1) (by decide)).trans (V5_arg m c Cert.KernelIdeal.main_arg1 (by decide)),
    (h.1 c (dr Cert.KernelIdeal.main_arg2) (by decide)).trans (V5_arg m c Cert.KernelIdeal.main_arg2 (by decide)),
    (h.1 c (dr Cert.KernelIdeal.main_arg3) (by decide)).trans (V5_arg m c Cert.KernelIdeal.main_arg3 (by decide)),
    (h.1 c (dr Cert.KernelIdeal.main_arg4) (by decide)).trans (V5_arg m c Cert.KernelIdeal.main_arg4 (by decide))⟩

/-- The kernel's program is its idealization's at the machine's own floats: the same bodies under the same labels. -/
theorem defs₀_eq {F : FTy → Type} [FloatOps F] : Cert.Kernel.defs₀ (F := F) = Cert.KernelIdeal.defs₀ (F := F) := by
  funext p ℓ a
  match p, ℓ, a with
  | .scVector c s, 0, _ => rfl
  | .tc, 1, (t, s) => rfl
  | .tc, 0, _ => rfl
  | .scVector c s, 1, _ => rfl
  | .scScalar c, _, _ => rfl

theorem defs_eq {F : FTy → Type} [FloatOps F] : Cert.Kernel.defs (F := F) = Cert.KernelIdeal.defs (F := F) :=
  congrArg (fun D => Cert.KernelIdeal.sc.defs (Pipeline.defs Cert.KernelIdeal.pcfgs D)) defs₀_eq

theorem frame_kernel : Cert.quiescent_Kernel := by
  intro m ρ hpre
  rw [defs_eq]
  refine (θ_run (Cert.KernelIdeal.defs (F := Bits)) (Cert.KernelIdeal.threads (F := Bits)) ⟨m, fun _ => 0, ρ⟩).mono ?_
    (run_main (F := Bits) m ρ ⟨fun d => (in_range_spec _ _ _ _ _ (hpre d)).1, fun d => (in_range_spec _ _ _ _ _ (hpre d)).2⟩)
  exact fun r h => ⟨fun c => args_of_QC h c, h.2⟩

theorem frame_ideal : Cert.quiescent_KernelIdeal := fun m ρ hpre =>
  (θ_run (Cert.KernelIdeal.defs (F := Ideal)) _ _).mono (fun _ h => ⟨fun c => args_of_QC h c, h.2⟩)
    (run_main (F := Ideal) m ρ ⟨fun d => (in_range_spec _ _ _ _ _ (hpre d)).1, fun d => (in_range_spec _ _ _ _ _ (hpre d)).2⟩)

theorem frame_ideal_valid : Cert.quiescent_KernelIdeal_pre_valid := fun m ρ hpre =>
  (θ_run (Cert.KernelIdeal.defs (F := Ideal)) _ _).mono (fun _ h => ⟨fun c => args_of_QC h c, h.2⟩)
    (run_main (F := Ideal) m ρ ⟨fun d => (valid_spec _ _ _ _ _ (hpre d)).1.1, fun d => (valid_spec _ _ _ _ _ (hpre d)).1.2⟩)

theorem frame_reference : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

theorem frame_reference_valid : Cert.quiescent_ReferenceIdeal_pre_valid := fun m ρ _ => frame_reference m ρ trivial

end Cert.Proof

end
-- ==== Proof.Ops.lean ====
/-
  Three host operations read at an index, at any sizes: where an update of a scatter of scalars into a vector lands, the
  accumulating scatter as a sum over the updates, and a gather of scalars out of a vector. Sums over an array of one
  axis are sums over numbers.
-/
module

public import Idealize.ShloMosaic.Lib.ValueIdxCore
public import Idealize.ShloMosaic.Lib.StableHlo.Predicate
public import Idealize.ShloMosaic.PureOps.Ideal
public import Mathlib.Algebra.BigOperators.Fin

@[expose] public section

noncomputable section

namespace Cert.Proof.Sc

open Idealize.ShloMosaic Idealize.ShloMosaic.ValueIdx

/-- Where update `j` of a scatter of `M` scalars into a vector of `N` lands. -/
theorem lands {N M : ℕ} (d : ScatterDims ⟨1, ![N]⟩ ⟨2, ![M, 1]⟩ ⟨1, ![M]⟩) (hi : d.insertedWindowDims = [0])
    (hs : d.scatterDimsToOperandDims = [0]) (hv : d.indexVectorDim = 1) (idx : IVec ⟨2, ![M, 1]⟩ 32)
    (j : (⟨1, ![M]⟩ : Shape).Idx) (i : (⟨1, ![N]⟩ : Shape).Idx) :
    d.resultIdx? j idx = some i ↔ (idx (ix2 (j 0) (0 : Fin 1))).toInt = ((i 0).val : ℤ) := by
  have hw : d.window j 0 = 0 := by
    have h0 : (0 : Fin 1) ∉ d.sKept := fun h => by
      have := of_decide_eq_true (List.mem_filter.1 h).2
      rw [hi] at this
      exact this (List.mem_singleton.2 rfl)
    unfold ScatterDims.window
    exact dif_neg h0
  have hm : (0 : Fin 1) ∈ d.scatterDimsToOperandDims := by rw [hs]; exact List.mem_singleton.2 rfl
  have hst : d.start j idx 0 = (idx (ix2 (j 0) (0 : Fin 1))).toInt := by
    unfold ScatterDims.start
    rw [dif_pos hm]
    refine congrArg (fun q => (idx q).toInt) ?_
    funext b
    match b with
    | ⟨1, _⟩ => exact Subsingleton.elim (α := Fin 1) _ _
    | ⟨0, _⟩ =>
      unfold ScatterDims.siIdx
      rw [dif_neg (show ¬ ((0 : ℕ) = d.indexVectorDim) by rw [hv]; decide)]
      refine Fin.ext ?_
      unfold ScatterDims.siCoord
      exact congrArg (fun q : Fin 1 => (j q).val) (Subsingleton.elim _ _)
  unfold ScatterDims.resultIdx?
  constructor
  · intro h
    split at h
    · rename_i hh
      have h1 := congrArg (fun f : (⟨1, ![N]⟩ : Shape).Idx => (f 0).val) (Option.some.inj h)
      have h2 := hh 0
      simp only [hw, hst] at h1 h2
      omega
    · cases h
  · intro h
    have hl : (i 0).val < N := (i 0).isLt
    rw [dif_pos]
    · refine congrArg some (funext fun a => ?_)
      match a with
      | ⟨0, _⟩ =>
        refine Fin.ext ?_
        show (d.start j idx 0 + d.window j 0).toNat = (i 0).val
        rw [hw, hst, h]; omega
    · intro a
      match a with
      | ⟨0, _⟩ =>
        show 0 ≤ d.start j idx 0 + d.window j 0 ∧ d.start j idx 0 + d.window j 0 < (N : ℤ)
        rw [hw, hst, h]; omega

/-- A sum over an array of one axis is a sum over the numbers below its length. -/
theorem sum_idx {M : ℕ} (f : (⟨1, ![M]⟩ : Shape).Idx → EReal) (g : ℕ → EReal)
    (h : ∀ j : (⟨1, ![M]⟩ : Shape).Idx, f j = g (j 0).val) : ∑ j, f j = ∑ k ∈ Finset.range M, g k := by
  rw [← Fin.sum_univ_eq_sum_range]
  exact Fintype.sum_equiv ⟨fun j => (j 0 : Fin M), fun k => ix1 k, fun j => (eq_ix1 j).symm, fun _ => rfl⟩ _ _ fun j => h j

/-- The accumulating scatter of `M` scalars into a vector of `N`, at an element: the operand's plus every update whose
    index is that element. -/
theorem scatterAdd_at {N M : ℕ} (d : ScatterDims ⟨1, ![N]⟩ ⟨2, ![M, 1]⟩ ⟨1, ![M]⟩) (hi : d.insertedWindowDims = [0])
    (hs : d.scatterDimsToOperandDims = [0]) (hv : d.indexVectorDim = 1) (x : FVec Ideal ⟨1, ![N]⟩ .f32)
    (idx : IVec ⟨2, ![M, 1]⟩ 32) (upd : FVec Ideal ⟨1, ![M]⟩ .f32) (i : (⟨1, ![N]⟩ : Shape).Idx) (p : ℕ → ℕ) (u : ℕ → EReal)
    (hp : ∀ j : (⟨1, ![M]⟩ : Shape).Idx, (idx (ix2 (j 0) (0 : Fin 1))).toInt = (p (j 0).val : ℤ))
    (hu : ∀ j : (⟨1, ![M]⟩ : Shape).Idx, upd j = u (j 0).val) :
    (Host.scatterAdd d x idx upd i : EReal) = (x i : EReal) + ∑ k ∈ Finset.range M, if p k = (i 0).val then u k else 0 := by
  show (x i : EReal) + ∑ j ∈ Finset.univ.filter (fun j => d.resultIdx? j idx = some i), (upd j : EReal) = _
  refine congrArg ((x i : EReal) + ·) ?_
  rw [Finset.sum_filter]
  refine sum_idx _ (fun k => if p k = (i 0).val then u k else 0) fun j => ?_
  have e := lands d hi hs hv idx j i
  rw [hp] at e
  by_cases hh : p (j 0).val = (i 0).val
  · rw [if_pos (e.2 (by rw [hh])), if_pos hh]; exact hu j
  · rw [if_neg (fun h => hh (by exact_mod_cast e.1 h)), if_neg hh]

/-- A gather of `M` scalars out of a vector of `N`, at an element whose index is in range. -/
theorem gather_at {N M : ℕ} {α : Type} (d : GatherDims ⟨1, ![N]⟩ ⟨2, ![M, 1]⟩ ⟨1, ![M]⟩) (hc : d.collapsedSliceDims = [0])
    (hob : d.operandBatchingDims = []) (hs : d.startIndexMap = [0]) (hv : d.indexVectorDim = 1) (hz : d.sliceSizes 0 = 1)
    (x : (⟨1, ![N]⟩ : Shape).Idx → α)
    (idx : IVec ⟨2, ![M, 1]⟩ 32) (j : (⟨1, ![M]⟩ : Shape).Idx) (i : (⟨1, ![N]⟩ : Shape).Idx)
    (h : (idx (ix2 (j 0) (0 : Fin 1))).toInt = ((i 0).val : ℤ)) : Host.gather d x idx j = x i := by
  have hm : (0 : Fin 1) ∈ d.startIndexMap := by rw [hs]; exact List.mem_singleton.2 rfl
  have hst : d.start j idx 0 = min (idx (ix2 (j 0) (0 : Fin 1))).toInt.toNat (N - d.sliceSizes 0) := by
    unfold GatherDims.start
    rw [dif_pos hm]
    refine congrArg (fun q => min (idx q).toInt.toNat (N - d.sliceSizes 0)) ?_
    funext b
    match b with
    | ⟨1, _⟩ => exact Subsingleton.elim (α := Fin 1) _ _
    | ⟨0, _⟩ =>
      unfold GatherDims.siIdx
      rw [dif_neg (show ¬ ((0 : ℕ) = d.indexVectorDim) by rw [hv]; decide)]
      refine Fin.ext ?_
      unfold GatherDims.siCoord
      exact congrArg (fun q : Fin 1 => (j q).val) (Subsingleton.elim _ _)
  refine congrArg x (funext fun a => ?_)
  match a with
  | ⟨0, _⟩ =>
    refine Fin.ext ?_
    show d.start j idx 0 + d.batchCoord j 0 + d.offCoord j 0 = (i 0).val
    have hl : (i 0).val < N := (i 0).isLt
    rw [hst, d.batchCoord_eq_zero j 0 (by rw [hob]; exact List.not_mem_nil),
      d.offCoord_eq_zero j 0 (fun hk => ((d.mem_sKept 0).1 hk).1 (by rw [hc]; exact List.mem_singleton.2 rfl)), hz, h]
    omega

end Cert.Proof.Sc
-- ==== Proof.Scores.lean ====
/-
  A document's score at exact arithmetic, as a plain sum: the query table is the sum of the query values at each term
  (`qS`), and the six rotating accumulators add the document's products up in another order (`dS`).
-/
module

public import proofs.«01_k».proof.Proof.Values
public import proofs.«01_k».proof.Proof.Ops
public import Mathlib.Algebra.BigOperators.Fin

@[expose] public section

noncomputable section

namespace Cert.Proof.Sc

open Cert.KernelIdeal Cert.KernelIdeal.Gen
open Idealize.ShloMosaic

theorem ofBits_zero : (FloatOps.ofBits (F := Ideal) .f32 0#32 : EReal) = 0 := by
  show Ideal.ofBits .f32 0#32 = 0
  simp [Ideal.ofBits, Ideal.ieee]

/-- The query's weight of term `v`: the sum of the values that name it. -/
def qS (ixs : ℕ → ℕ) (qv : ℕ → EReal) (v : ℕ) : EReal := ∑ k ∈ Finset.range 128, if ixs k = v then qv k else 0

theorem qTab_eq (ixs : S128.Idx → BitVec 32) (qv : S128.Idx → Ideal .f32) (j : S16384.Idx) : ∀ n,
    (qTab (F := Ideal) ixs qv n j : EReal)
      = ∑ k ∈ Finset.range n, if (ixs (iQ k)).toNat = (j 0).val then (qv (iQ k) : EReal) else 0
  | 0 => ofBits_zero
  | n + 1 => by
    rw [Finset.sum_range_succ, ← qTab_eq ixs qv j n]
    show (if (j 0).val = (ixs (iQ n)).toNat then ((qTab (F := Ideal) ixs qv n j : EReal) + (qv (iQ n) : EReal) : EReal) else _) = _
    by_cases h : (j 0).val = (ixs (iQ n)).toNat
    · rw [if_pos h, if_pos h.symm]
    · rw [if_neg h, if_neg (fun e => h e.symm), add_zero]

/-- The six accumulators' total is the sum of the terms. -/
theorem comb_accs (t : ℕ → EReal) : ∀ k, comb (· + ·) (accs (· + ·) 0 t k) = ∑ i ∈ Finset.range k, t i
  | 0 => by simp [comb, accs]
  | k + 1 => by
    rw [Finset.sum_range_succ, ← comb_accs t k]
    simp only [comb, accs]
    abel

/-- A sum over a whole turn may start anywhere in it. -/
theorem sum_rotate (r : ℕ) (hr : r < 164) (f : ℕ → EReal) :
    ∑ k ∈ Finset.range 164, f ((r + k) % 164) = ∑ k ∈ Finset.range 164, f k := by
  refine Finset.sum_nbij' (fun k => (r + k) % 164) (fun k => (k + (164 - r)) % 164) ?_ ?_ ?_ ?_ ?_ <;>
    intro k hk <;> simp only [Finset.mem_range] at hk ⊢ <;> first | omega | rfl

/-- Document `D`'s score: over its nonzeros, the weight times the query's weight of the term. -/
def dS (ixs : ℕ → ℕ) (qv : ℕ → EReal) (col : ℕ → ℕ) (cv : ℕ → EReal) (D : ℕ) : EReal :=
  ∑ k ∈ Finset.range 164, cv (D * 164 + k) * qS ixs qv (col (D * 164 + k))

theorem docScore_eq (ixs : S128.Idx → BitVec 32) (qv : S128.Idx → Ideal .f32) (col : S2686976.Idx → BitVec 32)
    (cv : S2686976.Idx → Ideal .f32) (hcol : ∀ j, (col j).toNat < 16384) (D : ℕ) :
    (docScore (F := Ideal) (qTab ixs qv 128) col cv D : EReal)
      = dS (fun k => (ixs (iQ k)).toNat) (fun k => qv (iQ k)) (fun p => (col (iN p)).toNat) (fun p => cv (iN p)) D := by
  have e : (docScore (F := Ideal) (qTab ixs qv 128) col cv D : EReal)
      = comb (· + ·) (accs (· + ·) 0 (fun k => (docTerm (F := Ideal) (qTab ixs qv 128) col cv D k : EReal)) 164) := by
    rw [← ofBits_zero]; rfl
  rw [e, comb_accs]
  unfold dS
  refine Eq.trans ?_ (sum_rotate (D % 16) (by omega) _)
  refine Finset.sum_congr rfl fun k _ => ?_
  show ((cv _ : EReal) * (qTab (F := Ideal) ixs qv 128 _ : EReal) : EReal) = _
  refine congrArg (fun q : EReal => (cv (iN (D * 164 + (D % 16 + k) % 164)) : EReal) * q) ?_
  rw [qTab_eq]
  unfold qS
  rw [at1_val _ _ _ (hcol _)]

/-- A finite sum of finite products is finite: every score is above the least extended real. -/
theorem ne_bot_sum (s : Finset ℕ) (f : ℕ → EReal) (h : ∀ k ∈ s, f k ≠ ⊥ ∧ f k ≠ ⊤) : ∑ k ∈ s, f k ≠ ⊥ ∧ ∑ k ∈ s, f k ≠ ⊤ := by
  classical
  induction s using Finset.induction_on with
  | empty => simp
  | insert a s ha ih =>
    rw [Finset.sum_insert ha]
    obtain ⟨h1, h2⟩ := ih fun k hk => h k (Finset.mem_insert_of_mem hk)
    obtain ⟨h3, h4⟩ := h a (Finset.mem_insert_self a s)
    lift (∑ k ∈ s, f k) to ℝ using ⟨h2, h1⟩ with y
    lift f a to ℝ using ⟨h4, h3⟩ with x
    exact ⟨by rw [← EReal.coe_add]; exact EReal.coe_ne_bot _, by rw [← EReal.coe_add]; exact EReal.coe_ne_top _⟩

theorem fin_mul {a b : EReal} (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  rw [← EReal.coe_mul]
  exact ⟨EReal.coe_ne_bot _, EReal.coe_ne_top _⟩

theorem dS_fin (ixs : ℕ → ℕ) (qv : ℕ → EReal) (col : ℕ → ℕ) (cv : ℕ → EReal) (D : ℕ)
    (hq : ∀ k, qv k ≠ ⊥ ∧ qv k ≠ ⊤) (hc : ∀ p, cv p ≠ ⊥ ∧ cv p ≠ ⊤) : dS ixs qv col cv D ≠ ⊥ ∧ dS ixs qv col cv D ≠ ⊤ :=
  ne_bot_sum _ _ fun k _ => fin_mul (hc _) (ne_bot_sum _ _ fun j _ => by
    by_cases h : ixs j = col (D * 164 + k)
    · rw [if_pos h]; exact hq j
    · rw [if_neg h]; exact ⟨EReal.zero_ne_bot, EReal.zero_ne_top⟩)

end Cert.Proof.Sc
-- ==== Proof.RefScores.lean ====
/-
  The reference's scores at exact arithmetic: its dense query, its row numbers, its products and their sum by row, each
  stage a function of the stage before, read at an index; together the plain sum `dS`.
-/
module

public import proofs.«01_k».proof.Proof.Gen.ReferenceIdeal
public import proofs.«01_k».proof.Proof.Scores
public import Idealize.ShloMosaic.Lib.ReduceAll
public import Idealize.ShloMosaic.Lib.Affine

@[expose] public section

set_option maxRecDepth 8192

noncomputable section

namespace Cert.Proof.Ref

open Cert.ReferenceIdeal Cert.ReferenceIdeal.Gen Cert.Proof.Sc
open Idealize.ShloMosaic Idealize.ShloMosaic.ValueIdx

/-! ## Small facts -/

/-- A broadcast read at an index. -/
theorem bcast_at {s t : Shape} {α : Type} (dims : Fin s.rank → Fin t.rank) (h : s.BroadcastsInDim t dims) (x : s.Idx → α)
    (j : t.Idx) (i : s.Idx) (e : ∀ a, s.size a ≠ 1 → (j (dims a)).val = (i a).val) : broadcastInDim t dims h x j = x i := by
  refine congrArg x (funext fun a => ?_)
  by_cases h1 : s.size a = 1
  · rw [dif_pos h1]
    refine Fin.ext ?_
    have := (i a).isLt
    show 0 = (i a).val
    omega
  · rw [dif_neg h1]
    exact Fin.ext (e a h1)

theorem toInt_small {b : BitVec 32} (h : b.toNat < 2147483648) : b.toInt = (b.toNat : ℤ) :=
  BitVec.toInt_eq_toNat_of_lt (by omega)

/-- The wrap of a negative index does nothing to one in range. -/
theorem wrap_at {b : BitVec 32} (h : b.toNat < 16384) :
    Scalar.select (IntOp.cmpi .slt b 0#32) (IntOp.addi b 16384#32) b = b := by
  have e : IntOp.cmpi .slt b 0#32 ≠ 1#1 := fun h' => by
    have h1 := IntOp.cmpi_slt.1 h'
    rw [toInt_small (by omega)] at h1
    have h2 : (0#32 : BitVec 32).toInt = 0 := rfl
    omega
  rcases BitVec.eq_zero_or_eq_one (IntOp.cmpi .slt b 0#32) with h0 | h1
  · rw [h0]; rfl
  · exact absurd h1 e

/-- How many multiples of 164 below `164 n` are at most `q`. -/
theorem count_le (n q : ℕ) (h : q / 164 + 1 ≤ n) : (Finset.univ.filter fun p : Fin n => p.val * 164 ≤ q).card = q / 164 + 1 := by
  have e : (Finset.univ.filter fun p : Fin n => p.val * 164 ≤ q)
      = (Finset.range (q / 164 + 1)).attachFin (fun k hk => by have := Finset.mem_range.1 hk; omega) := by
    ext p
    rw [Finset.mem_attachFin, Finset.mem_filter, Finset.mem_range]
    simp only [Finset.mem_univ, true_and]
    omega
  rw [e, Finset.card_attachFin, Finset.card_range]

/-- The terms of row `D` among `M`, summed over all with the others zero. -/
theorem sum_row (M D : ℕ) (h : (D + 1) * 164 ≤ M) (f : ℕ → EReal) :
    ∑ p ∈ Finset.range M, (if p / 164 = D then f p else 0) = ∑ k ∈ Finset.range 164, f (D * 164 + k) := by
  rw [← Finset.sum_filter]
  refine Finset.sum_nbij' (fun p => p - D * 164) (fun k => D * 164 + k) ?_ ?_ ?_ ?_ ?_ <;> intro p hp <;>
    simp only [Finset.mem_filter, Finset.mem_range] at hp ⊢
  · omega
  · omega
  · omega
  · omega
  · rw [show D * 164 + (p - D * 164) = p by omega]

/-! ## The stages -/

variable (a0 : IVec S1x128 32) (a1 : FVec Ideal S1x128 .f32) (a2 : IVec S16385 32) (a3 : IVec S2686976 32) (a4 : FVec Ideal S2686976 .f32)

def ixQ : IVec S128 32 := shapeCast _ a0 shapeCasts_S1x128_S128
def vlQ : FVec Ideal S128 .f32 := shapeCast _ a1 shapeCasts_S1x128_S128
def wrapQ (i : IVec S128 32) : IVec S128 32 :=
  select (cmpi .slt i (broadcastInDim S128 ![] bcast_S_S128 (constantI S_ 32 0#32))) (addi i (broadcastInDim S128 ![] bcast_S_S128 (constantI S_ 32 16384#32))) i
def zeros : FVec Ideal S16384 .f32 := broadcastInDim S16384 ![] bcast_S_S16384 (constant S_ .f32 0x00000000#32)
/-- The dense query. -/
def dense (i : IVec S128 32) (v : FVec Ideal S128 .f32) : FVec Ideal S16384 .f32 :=
  Host.scatterAdd scatter_S16384_S128x1_S128_n_0_0_1 zeros (broadcastInDim S128x1 ![0] bcast_S128_S128x1_0 (wrapQ i)) v

def wrapC : IVec S2686976x1 32 :=
  broadcastInDim S2686976x1 ![0] bcast_S2686976_S2686976x1_0 (select (cmpi .slt a3 (broadcastInDim S2686976 ![] bcast_S_S2686976 (constantI S_ 32 0#32))) (addi a3 (broadcastInDim S2686976 ![] bcast_S_S2686976 (constantI S_ 32 16384#32))) a3)
def okC (ix : IVec S2686976x1 32) : IVec S2686976 1 :=
  Host.reduce IntOp.andi (andi (cmpi .sge ix (broadcastInDim S2686976x1 ![] bcast_S_S2686976x1 (constantI S_ 32 0#32))) (cmpi .sle ix (broadcastInDim S2686976x1 ![0, 1] bcast_S1x1_S2686976x1_0_1 (broadcastInDim S1x1 ![1] bcast_S1_S1x1_1 (constantI S1 32 16383#32))))) (constantI S_ 1 1#1) reducesTo_S2686976x1_S2686976_d1 h_S_
def took (q : FVec Ideal S16384 .f32) (ix : IVec S2686976x1 32) : FVec Ideal S2686976 .f32 :=
  select (okC ix) (Host.gather gather_S16384_S2686976x1_S2686976_n_0_n_n_0_1_1 q ix) (broadcastInDim S2686976 ![] bcast_S_S2686976 (constant S_ .f32 0x7FC00000#32))

def leL : IVec S16385x2686976 32 := broadcastInDim S16385x2686976 ![0, 1] bcast_S16385x1_S16385x2686976_0_1 (broadcastInDim S16385x1 ![0] bcast_S16385_S16385x1_0 a2)
def leR : IVec S16385x2686976 32 := broadcastInDim S16385x2686976 ![0, 1] bcast_S1x2686976_S16385x2686976_0_1 (broadcastInDim S1x2686976 ![1] bcast_S2686976_S1x2686976_1 (iotaInDim S2686976 32 0))
def leM : IVec S16385x2686976 1 := cmpi .sle (leL a2) leR
def rowId : IVec S2686976 32 :=
  subi (Host.reduce IntOp.addi (extui 32 (leM a2) natLt_1_32) (constantI S_ 32 0#32) reducesTo_S16385x2686976_S2686976_d0 h_S_) (broadcastInDim S2686976 ![] bcast_S_S2686976 (constantI S_ 32 1#32))

/-- The scores. -/
def scores : FVec Ideal S16384 .f32 :=
  Host.scatterAdd scatter_S16384_S2686976x1_S2686976_n_0_0_1 zeros (broadcastInDim S2686976x1 ![0] bcast_S2686976_S2686976x1_0 (rowId a2))
    (mulf a4 (took (dense (ixQ a0) (vlQ a1)) (wrapC a3)))

/-! ## The stages at an index -/

theorem zeros_at (i : S16384.Idx) : (zeros i : EReal) = 0 := ofBits_zero

theorem dense_at (i : IVec S128 32) (v : FVec Ideal S128 .f32) (hi : ∀ j, (i j).toNat < 16384) (x : S16384.Idx) :
    (dense i v x : EReal) = qS (fun k => (i (at1 128 (by decide) k)).toNat) (fun k => v (at1 128 (by decide) k)) (x 0).val := by
  unfold dense
  rw [scatterAdd_at scatter_S16384_S128x1_S128_n_0_0_1 rfl rfl rfl zeros _ v x (fun k => (i (at1 128 (by decide) k)).toNat)
    (fun k => v (at1 128 (by decide) k)) ?_ ?_, zeros_at, zero_add]
  · rfl
  · intro j
    rw [bcast_at ![0] bcast_S128_S128x1_0 (wrapQ i) _ j (fun a _ => by match a with | ⟨0, _⟩ => rfl)]
    have e : wrapQ i j = i j := wrap_at (hi j)
    rw [e, toInt_small (by have := hi j; omega), ← eq_at1 (by decide) j]
  · intro j
    rw [← eq_at1 (by decide) j]

theorem wrapC_at (h : ∀ j, (a3 j).toNat < 16384) (y : S2686976x1.Idx) (j : S2686976.Idx) (e : (y 0).val = (j 0).val) :
    wrapC a3 y = a3 j := by
  unfold wrapC
  rw [bcast_at ![0] bcast_S2686976_S2686976x1_0 _ y j (fun a _ => by match a with | ⟨0, _⟩ => exact e)]
  exact wrap_at (h j)

theorem okC_at (ix : IVec S2686976x1 32) (h : ∀ y, (ix y).toNat < 16384) (j : S2686976.Idx) : okC ix j = 1#1 := by
  unfold okC
  refine Host.reduce_andi_one _ _ _ _ j rfl fun y => ?_
  refine IntOp.andi_eq_one.2 ⟨?_, ?_⟩
  · refine IntOp.cmpi_sge.2 ?_
    show (0#32 : BitVec 32).toInt ≤ (ix y).toInt
    rw [show (0#32 : BitVec 32).toInt = 0 from rfl, toInt_small (b := ix y) (by have := h y; omega)]
    exact Int.natCast_nonneg _
  · refine IntOp.cmpi_sle.2 ?_
    show (ix y).toInt ≤ (16383#32 : BitVec 32).toInt
    rw [toInt_small (b := ix y) (by have := h y; omega)]
    have := h y
    have e : (16383#32 : BitVec 32).toInt = 16383 := rfl
    omega

theorem took_at (q : FVec Ideal S16384 .f32) (h : ∀ j, (a3 j).toNat < 16384) (j : S2686976.Idx) :
    took q (wrapC a3) j = q (at1 16384 (by decide) (a3 j).toNat) := by
  have hx : ∀ y : S2686976x1.Idx, (wrapC a3 y).toNat < 16384 := fun y => by
    rw [wrapC_at a3 h y (at1 2686976 (by decide) (y 0).val) (Nat.mod_eq_of_lt (y 0).isLt).symm]
    exact h _
  have e : took q (wrapC a3) j = Scalar.select (okC (wrapC a3) j) (Host.gather gather_S16384_S2686976x1_S2686976_n_0_n_n_0_1_1 q (wrapC a3) j)
      (broadcastInDim S2686976 ![] bcast_S_S2686976 (constant (F := Ideal) S_ .f32 0x7FC00000#32) j) := rfl
  rw [e, okC_at _ hx j, select_one]
  have hs : gather_S16384_S2686976x1_S2686976_n_0_n_n_0_1_1.sliceSizes 0 = 1 := rfl
  refine gather_at gather_S16384_S2686976x1_S2686976_n_0_n_n_0_1_1 rfl rfl rfl rfl hs q (wrapC a3) j (at1 16384 (by decide) (a3 j).toNat) ?_
  rw [wrapC_at a3 h _ j rfl, toInt_small (by have := h j; omega), at1_val _ _ _ (h j)]

theorem leL_at (p : Fin 16385) (q : Fin 2686976) : leL a2 (StableHlo.Predicate.ij p q) = a2 (at1 16385 (by decide) p.val) := by
  unfold leL
  refine (bcast_at ![0, 1] bcast_S16385x1_S16385x2686976_0_1 _ (StableHlo.Predicate.ij p q) (ix2 p (0 : Fin 1)) (fun a ha => by
      match a with
      | ⟨0, _⟩ => rfl
      | ⟨1, _⟩ => exact absurd rfl ha)).trans ?_
  exact bcast_at ![0] bcast_S16385_S16385x1_0 a2 (ix2 p (0 : Fin 1)) (at1 16385 (by decide) p.val) (fun a _ => by match a with | ⟨0, _⟩ => exact (Nat.mod_eq_of_lt p.isLt).symm)

theorem leR_at (p : Fin 16385) (q : Fin 2686976) : leR (StableHlo.Predicate.ij p q) = BitVec.ofNat 32 q.val := by
  unfold leR
  refine (bcast_at ![0, 1] bcast_S1x2686976_S16385x2686976_0_1 _ (StableHlo.Predicate.ij p q) (ix2 (0 : Fin 1) q) (fun a ha => by
      match a with
      | ⟨0, _⟩ => exact absurd rfl ha
      | ⟨1, _⟩ => rfl)).trans ?_
  exact bcast_at ![1] bcast_S2686976_S1x2686976_1 (iotaInDim S2686976 32 0) (ix2 (0 : Fin 1) q) (ix1 q) (fun a _ => by match a with | ⟨0, _⟩ => rfl)

theorem le_iff (p q : ℕ) (hp : p < 16385) (hq : q < 2686976) :
    IntOp.cmpi .sle (BitVec.ofNat 32 p * 164#32) (BitVec.ofNat 32 q) = 1#1 ↔ p * 164 ≤ q := by
  have e1 : (BitVec.ofNat 32 p * 164#32).toNat = p * 164 := by
    rw [BitVec.toNat_mul, BitVec.toNat_ofNat, BitVec.toNat_ofNat]; omega
  have e2 : (BitVec.ofNat 32 q).toNat = q := by rw [BitVec.toNat_ofNat]; omega
  rw [IntOp.cmpi_sle, toInt_small (by rw [e1]; omega), toInt_small (by rw [e2]; omega), e1, e2]
  omega

theorem leM_at (h2 : ∀ j, a2 j = BitVec.ofNat 32 (j 0).val * 164#32) (p : Fin 16385) (q : Fin 2686976) :
    leM a2 (StableHlo.Predicate.ij p q) = 1#1 ↔ p.val * 164 ≤ q.val := by
  have e : leM a2 (StableHlo.Predicate.ij p q) = IntOp.cmpi .sle (BitVec.ofNat 32 p.val * 164#32) (BitVec.ofNat 32 q.val) :=
    congrArg₂ (IntOp.cmpi .sle) ((leL_at a2 p q).trans ((h2 _).trans
      (congrArg (fun k => BitVec.ofNat 32 k * 164#32) (Nat.mod_eq_of_lt p.isLt)))) (leR_at p q)
  rw [e]
  exact le_iff p.val q.val p.isLt q.isLt

theorem rowId_at (h2 : ∀ j, a2 j = BitVec.ofNat 32 (j 0).val * 164#32) (j : S2686976.Idx) :
    (rowId a2 j).toInt = (((j 0).val / 164 : ℕ) : ℤ) := by
  have hj : (j 0).val < 2686976 := (j 0).isLt
  have ec : (Host.reduce IntOp.addi (extui 32 (leM a2) natLt_1_32) (constantI S_ 32 0#32) reducesTo_S16385x2686976_S2686976_d0 h_S_ j).toNat
      = (j 0).val / 164 + 1 := by
    refine (StableHlo.Predicate.toNat_reduce_count_rows (by decide) (leM a2) natLt_1_32 reducesTo_S16385x2686976_S2686976_d0 h_S_ j).trans ?_
    rw [← count_le 16385 (j 0).val (by omega)]
    exact congrArg Finset.card (Finset.filter_congr fun p _ => leM_at a2 h2 p (j 0))
  have e : (rowId a2 j).toNat = (j 0).val / 164 := by
    show (Host.reduce IntOp.addi (extui 32 (leM a2) natLt_1_32) (constantI S_ 32 0#32) reducesTo_S16385x2686976_S2686976_d0 h_S_ j - 1#32).toNat = _
    rw [BitVec.toNat_sub, ec]
    have : (1#32 : BitVec 32).toNat = 1 := rfl
    omega
  rw [toInt_small (by omega), e]

/-- The reference's scores are the plain sums. -/
theorem scores_at (h0 : ∀ j, (a0 j).toNat < 16384) (h3 : ∀ j, (a3 j).toNat < 16384)
    (h2 : ∀ j, a2 j = BitVec.ofNat 32 (j 0).val * 164#32) (x : S16384.Idx) :
    (scores a0 a1 a2 a3 a4 x : EReal)
      = dS (fun k => (ixQ a0 (at1 128 (by decide) k)).toNat) (fun k => vlQ a1 (at1 128 (by decide) k))
        (fun p => (a3 (at1 2686976 (by decide) p)).toNat) (fun p => a4 (at1 2686976 (by decide) p)) (x 0).val := by
  have hx : (x 0).val < 16384 := (x 0).isLt
  unfold scores
  rw [scatterAdd_at scatter_S16384_S2686976x1_S2686976_n_0_0_1 rfl rfl rfl zeros _ _ x (fun p => p / 164)
    (fun p => (a4 (at1 2686976 (by decide) p) : EReal) * qS (fun k => (ixQ a0 (at1 128 (by decide) k)).toNat)
      (fun k => vlQ a1 (at1 128 (by decide) k)) (a3 (at1 2686976 (by decide) p)).toNat) ?_ ?_, zeros_at, zero_add, sum_row _ _ (by omega)]
  · rfl
  · intro j
    rw [bcast_at ![0] bcast_S2686976_S2686976x1_0 (rowId a2) _ j (fun a _ => by match a with | ⟨0, _⟩ => rfl)]
    exact rowId_at a2 h2 j
  · intro j
    rw [← eq_at1 (by decide) j]
    show (a4 j : EReal) * (took (dense (ixQ a0) (vlQ a1)) (wrapC a3) j : EReal) = _
    rw [took_at a3 _ h3 j, dense_at (ixQ a0) (vlQ a1) (fun k => h0 _), at1_val _ _ _ (h3 j)]

end Cert.Proof.Ref
-- ==== Proof.TopList.lean ====
/-
  The first places of a stable descending sort, by repeated extraction: if each round takes the first place of the
  greatest value left and strikes it out, the rounds take the places that the sort puts first, in order.
-/
module

public import Idealize.ShloMosaic.Lib.SortPrefix
public import Idealize.ShloMosaic.Lib.ValueIdxCore
public import Idealize.ShloMosaic.PureOps.Ideal

@[expose] public section

noncomputable section

namespace Cert.Proof.Sc

open Idealize.ShloMosaic Idealize.ShloMosaic.ValueIdx

/-! ## A stable sort of places in order is a sort by key, then place -/

theorem stable_refine {n : ℕ} (B B' : Fin n → Fin n → Bool) (h : ∀ a b, a < b → B b a = B' b a) :
    ∀ l : List (Fin n), l.Pairwise (· < ·) → stableSort B l = stableSort B' l
  | [], _ => rfl
  | a :: l, hl => by
    obtain ⟨h1, h2⟩ := List.pairwise_cons.1 hl
    unfold stableSort
    rw [stable_refine B B' h l h2]
    refine insertBefore_congr B B' a _ fun b hb => h a b (h1 b ?_)
    exact (perm_stableSort B' l).mem_iff.1 hb

theorem sortedFrom_refine {n : ℕ} (B B' : Fin n → Fin n → Bool) (h : ∀ a b, a < b → B b a = B' b a) :
    sortedFrom B = sortedFrom B' := by
  have e : sortPositions n B = sortPositions n B' := stable_refine B B' h _ (List.pairwise_lt_finRange n)
  funext k
  unfold sortedFrom
  rw [List.get_of_eq e]
  rfl

/-- The greater value first, and of equal values the lower place. -/
def keyB {n : ℕ} (x : Fin n → EReal) (a b : Fin n) : Bool := decide (x b < x a) || (decide (x a = x b) && decide (a < b))

theorem keyB_strict {n : ℕ} (x : Fin n → EReal) : StrictTotalBefore (keyB x) := by
  classical
  refine StrictTotalBefore.of_key_then_position (κ := EReal) (fun u v => decide (v < u)) x ?_ ?_ ?_
  · intro a; simp
  · intro a b c h1 h2
    exact decide_eq_true (lt_trans (of_decide_eq_true h2) (of_decide_eq_true h1))
  · intro a b
    rcases lt_trichotomy a b with h | h | h
    · exact .inr (.inr (decide_eq_true h))
    · exact .inr (.inl h)
    · exact .inl (decide_eq_true h)

theorem sortedFrom_key {n : ℕ} (x : Fin n → EReal) :
    sortedFrom (fun a b => Ideal.cmpTotal .gt (x a) (x b) == 1#1) = sortedFrom (keyB x) := by
  refine sortedFrom_refine _ _ fun a b hab => ?_
  have hn : ¬ b < a := not_lt.2 hab.le
  show (BitVec.ofBool (decide (x a < x b)) == 1#1) = (decide (x a < x b) || (decide (x b = x a) && decide (b < a)))
  rw [decide_eq_false hn, Bool.and_false, Bool.or_false]
  by_cases h : x a < x b
  · rw [decide_eq_true h]; rfl
  · rw [decide_eq_false h]; rfl

/-! ## The rounds -/

variable {N : ℕ} (x : Fin N → EReal) (f : ℕ → Fin N → EReal) (σ : ℕ → Fin N)

/-- After `n` rounds the places taken hold the least value, the others their own. -/
theorem struck (h0 : ∀ p, f 0 p = x p) (hs : ∀ n p, f (n + 1) p = if p = σ n then ⊥ else f n p) :
    ∀ n p, ((∃ j, j < n ∧ σ j = p) → f n p = ⊥) ∧ ((∀ j, j < n → σ j ≠ p) → f n p = x p)
  | 0, p => ⟨fun ⟨_, h, _⟩ => absurd h (Nat.not_lt_zero _), fun _ => h0 p⟩
  | n + 1, p => by
    obtain ⟨i1, i2⟩ := struck h0 hs n p
    rw [hs]
    by_cases e : p = σ n
    · rw [if_pos e]
      exact ⟨fun _ => rfl, fun h => absurd e.symm (h n (Nat.lt_succ_self n))⟩
    · rw [if_neg e]
      refine ⟨fun ⟨j, hj, hp⟩ => i1 ⟨j, ?_, hp⟩, fun h => i2 fun j hj => h j (Nat.lt_succ_of_lt hj)⟩
      rcases Nat.lt_succ_iff_lt_or_eq.1 hj with h | h
      · exact h
      · subst h; exact absurd hp.symm e

/-- Some place is not among the first `n < N` taken. -/
theorem exists_left (n : ℕ) (hn : n < N) : ∃ p, ∀ j, j < n → σ j ≠ p := by
  classical
  by_contra hc
  push Not at hc
  have hsub : (Finset.univ : Finset (Fin N)) ⊆ (Finset.range n).image σ := fun p _ => by
    obtain ⟨j, hj, e⟩ := hc p
    exact Finset.mem_image.2 ⟨j, Finset.mem_range.2 hj, e⟩
  have h1 := Finset.card_le_card hsub
  have h2 := Finset.card_image_le (s := Finset.range n) (f := σ)
  rw [Finset.card_univ, Fintype.card_fin] at h1
  rw [Finset.card_range] at h2
  omega

/-- Round `n` takes a place not taken before, with its own value, no place left having a greater value, nor an equal one
    lower. -/
theorem round (hx : ∀ p, x p ≠ ⊥) (h0 : ∀ p, f 0 p = x p) (hs : ∀ n p, f (n + 1) p = if p = σ n then ⊥ else f n p)
    (hm : ∀ n p, f n p ≤ f n (σ n)) (hl : ∀ n p, f n p = f n (σ n) → σ n ≤ p) (n : ℕ) (hn : n < N) :
    (∀ j, j < n → σ j ≠ σ n) ∧ f n (σ n) = x (σ n) ∧ ∀ p, (∀ j, j < n → σ j ≠ p) → keyB x p (σ n) = false := by
  have hnew : ∀ j, j < n → σ j ≠ σ n := fun j hj e => by
    obtain ⟨p, hp⟩ := exists_left σ n hn
    have h1 := (struck x f σ h0 hs n p).2 hp
    have h2 := (struck x f σ h0 hs n (σ n)).1 ⟨j, hj, e⟩
    have h3 := hm n p
    rw [h1, h2] at h3
    exact hx p (le_bot_iff.1 h3)
  have hv := (struck x f σ h0 hs n (σ n)).2 hnew
  refine ⟨hnew, hv, fun p hp => ?_⟩
  have hpv := (struck x f σ h0 hs n p).2 hp
  have h1 := hm n p
  rw [hv, hpv] at h1
  unfold keyB
  rw [decide_eq_false (not_lt.2 h1), Bool.false_or, Bool.and_eq_false_iff]
  by_cases e : x p = x (σ n)
  · exact .inr (decide_eq_false (not_lt.2 (hl n p (by rw [hv, hpv, e]))))
  · exact .inl (decide_eq_false e)

/-- The first `k` rounds take the places that the sort puts first. -/
theorem sortedFrom_rounds (hx : ∀ p, x p ≠ ⊥) (h0 : ∀ p, f 0 p = x p)
    (hs : ∀ n p, f (n + 1) p = if p = σ n then ⊥ else f n p) (hm : ∀ n p, f n p ≤ f n (σ n))
    (hl : ∀ n p, f n p = f n (σ n) → σ n ≤ p) (k : ℕ) (hk : k ≤ N) (i : Fin k) :
    sortedFrom (fun a b => Ideal.cmpTotal .gt (x a) (x b) == 1#1) (i.castLE hk) = σ i.val := by
  have hr := fun n (hn : n < k) => round x f σ hx h0 hs hm hl n (hn.trans_le hk)
  rw [sortedFrom_key]
  refine (keyB_strict x).sortedFrom_eq_of_prefix hk (fun i : Fin k => σ i.val) ?_ ?_ ?_ i
  · intro a b e
    rcases lt_trichotomy a.val b.val with h | h | h
    · exact absurd e ((hr b.val b.isLt).1 a.val h)
    · exact Fin.ext h
    · exact absurd e.symm ((hr a.val a.isLt).1 b.val h)
  · intro a b hab
    refine (hr a.val a.isLt).2.2 (σ b.val) fun j hj => ?_
    exact (hr b.val b.isLt).1 j (hj.trans hab)
  · intro a p hp
    exact (hr a.val a.isLt).2.2 p fun j hj => hp ⟨j, hj.trans a.isLt⟩

/-! ## The host's first `k` -/

theorem along_eq {n : ℕ} (j : (⟨1, ![n]⟩ : Shape).Idx) (p : Fin n) : j.along (0 : Fin 1) p = ix1 p := by
  funext a
  match a with
  | ⟨0, _⟩ => exact Function.update_self _ _ _

theorem topK_at {n k : ℕ} (hk : k ≤ n) (x : FVec Ideal ⟨1, ![n]⟩ .f32)
    (h : (⟨1, ![n]⟩ : Shape).Slices (fun _ => 0) ⟨1, ![k]⟩) (j : (⟨1, ![k]⟩ : Shape).Idx) :
    ((Host.topK ⟨1, ![k]⟩ 0 (FloatOps.cmpfTotal (F := Ideal) .gt) x h).1 j
        = x (ix1 (sortedFrom (fun a b => Ideal.cmpTotal .gt (x (ix1 a)) (x (ix1 b)) == 1#1) (Fin.castLE hk (j 0)))))
      ∧ (Host.topK ⟨1, ![k]⟩ 0 (FloatOps.cmpfTotal (F := Ideal) .gt) x h).2 j
        = BitVec.ofNat 32 (sortedFrom (fun a b => Ideal.cmpTotal .gt (x (ix1 a)) (x (ix1 b)) == 1#1) (Fin.castLE hk (j 0))).val := by
  have key : ∀ (J : (⟨1, ![n]⟩ : Shape).Idx) (q : Fin n), q.val = 0 + (j 0).val →
      sortedFrom (fun a b : Fin n => FloatOps.cmpfTotal (F := Ideal) .gt (x (J.along (0 : Fin 1) a)) (x (J.along (0 : Fin 1) b)) == 1#1) q
        = sortedFrom (fun a b => Ideal.cmpTotal .gt (x (ix1 a)) (x (ix1 b)) == 1#1) (Fin.castLE hk (j 0)) := fun J q hq => by
    have hq' : q = Fin.castLE hk (j 0) := Fin.ext (by rw [hq, Nat.zero_add]; rfl)
    subst hq'
    refine congrArg (fun B => sortedFrom B (Fin.castLE hk (j 0))) (funext fun a => funext fun b => ?_)
    rw [along_eq, along_eq]
    rfl
  unfold Host.topK Host.sort2 extractStridedSlice
  simp only [show (0 : ℕ) < (⟨1, ![n]⟩ : Shape).rank from Nat.one_pos, dif_pos]
  constructor
  · exact congrArg x ((along_eq _ _).trans (congrArg ix1 (key _ _ rfl)))
  · exact (congrArg (iotaInDim ⟨1, ![n]⟩ 32 0) (along_eq _ _)).trans (congrArg (fun q : Fin n => BitVec.ofNat 32 q.val) (key _ _ rfl))

end Cert.Proof.Sc
-- ==== Proof.Rounds.lean ====
/-
  The ten rounds of the second kernel at exact arithmetic: each takes the greatest score left and its first place, and
  strikes it out; so what the body stores is the host's first ten of the scores, values and places.
-/
module

public import proofs.«01_k».proof.Proof.TopBody
public import proofs.«01_k».proof.Proof.TopList
public import Idealize.ShloMosaic.Lib.Affine
public import Idealize.ShloMosaic.PureOps.Reduce
public import Idealize.ShloMosaic.Lib.Pipeline.Value

@[expose] public section

set_option maxRecDepth 65536

noncomputable section

namespace Cert.Proof.Sc

open Cert.KernelIdeal Cert.KernelIdeal.Gen
open Idealize.ShloMosaic Idealize.ShloMosaic.ValueIdx

/-! ## Folds of a maximum and of a signed minimum -/

theorem fold_max_all {ι : Type} [Fintype ι] [Nonempty ι] (P : ι → Prop) [DecidablePred P] (hP : ∀ i, P i) (f : ι → EReal) :
    (∀ i, f i ≤ (Finset.univ.filter P).fold max ⊥ f) ∧ ∃ i, f i = (Finset.univ.filter P).fold max ⊥ f := by
  have h1 : ∀ i, f i ≤ (Finset.univ.filter P).fold max ⊥ f := fun i =>
    Finset.le_fold_max (f i) |>.2 (.inr ⟨i, Finset.mem_filter.2 ⟨Finset.mem_univ i, hP i⟩, le_rfl⟩)
  refine ⟨h1, ?_⟩
  rcases (Finset.le_fold_max ((Finset.univ.filter P).fold max ⊥ f)).1 le_rfl with h | ⟨i, -, h⟩
  · obtain ⟨i⟩ := ‹Nonempty ι›
    exact ⟨i, le_antisymm (h1 i) (h.trans bot_le)⟩
  · exact ⟨i, le_antisymm (h1 i) h⟩

theorem minsi_spec (a b : BitVec 32) :
    (IntOp.minsi a b).toInt ≤ a.toInt ∧ (IntOp.minsi a b).toInt ≤ b.toInt ∧ (IntOp.minsi a b = a ∨ IntOp.minsi a b = b) := by
  unfold IntOp.minsi
  by_cases h : a.slt b = true
  · rw [if_pos h]
    have := BitVec.slt_iff_toInt_lt.1 h
    exact ⟨le_rfl, by omega, .inl rfl⟩
  · rw [if_neg h]
    have : ¬ a.toInt < b.toInt := fun h' => h (BitVec.slt_iff_toInt_lt.2 h')
    exact ⟨by omega, le_rfl, .inr rfl⟩

theorem fold_minsi_spec {ι : Type} (S : Finset ι) (b : BitVec 32) (f : ι → BitVec 32) :
    (∀ i ∈ S, (S.fold IKind.minsi.op b f).toInt ≤ (f i).toInt) ∧ (S.fold IKind.minsi.op b f).toInt ≤ b.toInt
      ∧ (S.fold IKind.minsi.op b f = b ∨ ∃ i ∈ S, S.fold IKind.minsi.op b f = f i) := by
  classical
  induction S using Finset.cons_induction with
  | empty => exact ⟨fun i hi => absurd hi (Finset.notMem_empty i), le_rfl, .inl rfl⟩
  | cons a S ha ih =>
    rw [Finset.fold_cons]
    have hm := minsi_spec (f a) (S.fold IKind.minsi.op b f)
    rw [show IntOp.minsi = IKind.minsi.op from rfl] at hm
    obtain ⟨h1, h2, h3⟩ := hm
    obtain ⟨i1, i2, i3⟩ := ih
    refine ⟨fun i hi => ?_, by omega, ?_⟩
    · rcases Finset.mem_cons.1 hi with rfl | hi
      · exact h1
      · have := i1 i hi; omega
    · rcases h3 with h | h
      · exact .inr ⟨a, Finset.mem_cons_self a S, h⟩
      · rcases i3 with e | ⟨i, hi, e⟩
        · exact .inl (h.trans e)
        · exact .inr ⟨i, Finset.mem_cons_of_mem hi, h.trans e⟩

/-! ## Places -/

/-- A place's number, and the place of a number. -/
def fl (i : S128x128.Idx) : ℕ := (i 0).val * 128 + (i 1).val
theorem fl_lt (i : S128x128.Idx) : fl i < 16384 := by
  have h0 : (i 0).val < 128 := (i 0).isLt
  have h1 : (i 1).val < 128 := (i 1).isLt
  unfold fl
  omega
def place (p : Fin 16384) : S128x128.Idx := ix2 ⟨p.val / 128, by omega⟩ ⟨p.val % 128, by omega⟩
theorem fl_place (p : Fin 16384) : fl (place p) = p.val := by
  show p.val / 128 * 128 + p.val % 128 = p.val
  omega
theorem place_fl (i : S128x128.Idx) : place ⟨fl i, fl_lt i⟩ = i := by
  have h1 : (i 1).val < 128 := (i 1).isLt
  funext a
  match a with
  | ⟨0, _⟩ => exact Fin.ext (show ((i 0).val * 128 + (i 1).val) / 128 = (i 0).val by omega)
  | ⟨1, _⟩ => exact Fin.ext (show ((i 0).val * 128 + (i 1).val) % 128 = (i 1).val by omega)

theorem pay2_at (i : S128x128.Idx) : k1_pay2 i = BitVec.ofNat 32 (fl i) := by
  have e : k1_pay2 i = BitVec.ofNat 32 (0 * 128 + (i 0).val) * 128#32 + BitVec.ofNat 32 (0 * 128 + (i 1).val) := rfl
  rw [e, Nat.zero_mul, Nat.zero_add, Nat.zero_add, show (128#32 : BitVec 32) = BitVec.ofNat 32 128 from rfl, ← BitVec.ofNat_mul, ← BitVec.ofNat_add]
  rfl

theorem ofBits_bot : (FloatOps.ofBits (F := Ideal) .f32 0xFF800000#32 : EReal) = ⊥ := by
  show Ideal.ofBits .f32 0xFF800000#32 = ⊥
  simp [Ideal.ofBits, Ideal.ieee]

/-! ## One round -/

abbrev y0 : S1x1.Idx := ix2 (0 : Fin 1) (0 : Fin 1)
theorem s1_eq (a b : S1.Idx) : a = b := by
  funext k
  match k with
  | ⟨0, _⟩ => exact Subsingleton.elim (α := Fin 1) _ _

/-- A round's greatest score. -/
def M (s : FVec Ideal S128x128 .f32) : EReal := mxv s y0

/-- A maximum over every place of a block, from the least extended real. -/
theorem reduce_max_spec (t : FVec Ideal S1x128x128 .f32) (k : S1.Idx) :
    (∀ i, (t i : EReal) ≤ multiReduction .maximumf [1, 2] S1 t 0xFF800000#32 reduces_S1x128x128_S1 (.inl rfl) rfl k)
      ∧ ∃ i, (t i : EReal) = multiReduction .maximumf [1, 2] S1 t 0xFF800000#32 reduces_S1x128x128_S1 (.inl rfl) rfl k := by
  haveI c : Std.Commutative (FloatOps.maximumf (F := Ideal) (φ := .f32)) := ⟨fun a b => max_comm (α := EReal) a b⟩
  haveI a : Std.Associative (FloatOps.maximumf (F := Ideal) (φ := .f32)) := ⟨fun a b c => max_assoc (α := EReal) a b c⟩
  haveI : Nonempty S1x128x128.Idx := ⟨ix3 (0 : Fin 1) (0 : Fin 128) (0 : Fin 128)⟩
  have e : multiReduction .maximumf [1, 2] S1 t 0xFF800000#32 reduces_S1x128x128_S1 (.inl rfl) rfl k
      = (Finset.univ.filter fun i => reduces_S1x128x128_S1.drop i = k).fold (FloatOps.maximumf (F := Ideal) (φ := .f32)) (FloatOps.ofBits .f32 0xFF800000#32) t :=
    multiReduction_maximumf_eq_fold t _ reduces_S1x128x128_S1 (.inl rfl) rfl k
  rw [e, ofBits_bot]
  exact fold_max_all (fun i => reduces_S1x128x128_S1.drop i = k) (fun i => s1_eq _ _) t

/-- A signed minimum over every place of a block. -/
theorem reduce_min_spec (t : IVec S1x128x128 32) (k : S1.Idx) :
    (∀ i, (multiReductionI .minsi [1, 2] S1 t 2147483647#32 reduces_S1x128x128_S1 rfl k).toInt ≤ (t i).toInt)
      ∧ (multiReductionI .minsi [1, 2] S1 t 2147483647#32 reduces_S1x128x128_S1 rfl k = 2147483647#32
        ∨ ∃ i, multiReductionI .minsi [1, 2] S1 t 2147483647#32 reduces_S1x128x128_S1 rfl k = t i) := by
  have e : multiReductionI .minsi [1, 2] S1 t 2147483647#32 reduces_S1x128x128_S1 rfl k
      = (Finset.univ.filter fun i => reduces_S1x128x128_S1.drop i = k).fold IKind.minsi.op 2147483647#32 t :=
    multiReductionI_eq_fold .minsi t _ reduces_S1x128x128_S1 rfl k
  rw [e]
  obtain ⟨h1, -, h3⟩ := fold_minsi_spec (Finset.univ.filter fun i => reduces_S1x128x128_S1.drop i = k) 2147483647#32 t
  refine ⟨fun i => h1 i (Finset.mem_filter.2 ⟨Finset.mem_univ _, s1_eq _ _⟩), ?_⟩
  rcases h3 with h | ⟨i, -, h⟩
  · exact .inl h
  · exact .inr ⟨i, h⟩

/-- Where the one entry of a reduction is read. -/
def kk : S1.Idx := Shape.reshapeEquiv shapeCasts_S1_S1x1x1 (fun a => ⟨(![0, 0, 0] : Fin 3 → ℕ) a, inpos_S1x1x1_p0_0_0 a⟩)
/-- A block's index as a place. -/
def ee : S1x128x128.Idx ≃ S128x128.Idx := Shape.reshapeEquiv shapeCasts_S128x128_S1x128x128

theorem mx1_at (a : FVec Ideal S1 .f32) : mx1 a y0 = a kk := by
  unfold mx1 kk broadcast extractAt shapeCast
  rfl
theorem M_eq (s : FVec Ideal S128x128 .f32) : M s = multiReduction .maximumf [1, 2] S1 (fun i => s (ee i)) 0xFF800000#32 reduces_S1x128x128_S1 (.inl rfl) rfl kk := by
  unfold M mxv
  rw [mx1_at]
  unfold mxA shapeCast ee
  rfl
theorem ixv_eq (s : FVec Ideal S128x128 .f32) : ixv s y0 = multiReductionI .minsi [1, 2] S1 (fun i => pick s (ee i)) 2147483647#32 reduces_S1x128x128_S1 rfl kk := by
  unfold ixv ix1 ix0 kk ee broadcast extractAt shapeCast
  rfl

theorem M_spec (s : FVec Ideal S128x128 .f32) : (∀ i, (s i : EReal) ≤ M s) ∧ ∃ i, (s i : EReal) = M s := by
  obtain ⟨h1, i, h2⟩ := reduce_max_spec (fun i => s (ee i)) kk
  rw [← M_eq] at h1 h2
  exact ⟨fun i => by have := h1 (ee.symm i); rwa [Equiv.apply_symm_apply] at this, ee i, h2⟩

theorem pick_at (s : FVec Ideal S128x128 .f32) (i : S128x128.Idx) :
    pick s i = if (s i : EReal) = M s then BitVec.ofNat 32 (fl i) else 1073741824#32 := by
  have e : pick s i = Scalar.select (BitVec.ofBool (decide ((s i : EReal) = M s))) (k1_pay2 i) 1073741824#32 := rfl
  rw [e, pay2_at]
  by_cases h : (s i : EReal) = M s
  · rw [if_pos h, decide_eq_true h]; rfl
  · rw [if_neg h, decide_eq_false h]; rfl

theorem toInt_fl (i : S128x128.Idx) : (BitVec.ofNat 32 (fl i)).toInt = (fl i : ℤ) := by
  have := fl_lt i
  rw [BitVec.toInt_eq_toNat_of_lt (by rw [BitVec.toNat_ofNat]; omega), BitVec.toNat_ofNat]
  omega

/-- A round's place: the first that holds the greatest score. -/
theorem ixv_spec (s : FVec Ideal S128x128 .f32) :
    ∃ i, (s i : EReal) = M s ∧ ixv s y0 = BitVec.ofNat 32 (fl i) ∧ ∀ i', (s i' : EReal) = M s → fl i ≤ fl i' := by
  obtain ⟨h1, h3⟩ := reduce_min_spec (fun i => pick s (ee i)) kk
  rw [← ixv_eq] at h1 h3
  have hle : ∀ i, (ixv s y0).toInt ≤ (pick s i).toInt := fun i => by
    have := h1 (ee.symm i)
    rwa [Equiv.apply_symm_apply] at this
  obtain ⟨i0, hi0⟩ := (M_spec s).2
  have hlt : (ixv s y0).toInt < 16384 := by
    have := hle i0
    rw [pick_at, if_pos hi0, toInt_fl] at this
    have := fl_lt i0
    omega
  rcases h3 with h | ⟨i, h⟩
  · rw [h] at hlt
    exact absurd hlt (by decide)
  · rw [pick_at] at h
    by_cases hm : (s (ee i) : EReal) = M s
    · rw [if_pos hm] at h
      refine ⟨ee i, hm, h, fun i' hi' => ?_⟩
      have := hle i'
      rw [pick_at, if_pos hi', h, toInt_fl, toInt_fl] at this
      omega
    · rw [if_neg hm] at h
      rw [h] at hlt
      exact absurd hlt (by decide)

/-- That place's number. -/
def bAt (s : FVec Ideal S128x128 .f32) : Fin 16384 := ⟨(ixv s y0).toNat % 16384, Nat.mod_lt _ (by decide)⟩

theorem bAt_spec (s : FVec Ideal S128x128 .f32) :
    (s (place (bAt s)) : EReal) = M s ∧ ixv s y0 = BitVec.ofNat 32 (bAt s).val ∧ ∀ p, (s (place p) : EReal) = M s → bAt s ≤ p := by
  obtain ⟨i, h1, h2, h3⟩ := ixv_spec s
  have hb : bAt s = ⟨fl i, fl_lt i⟩ := by
    refine Fin.ext ?_
    show (ixv s y0).toNat % 16384 = fl i
    have := fl_lt i
    rw [h2, BitVec.toNat_ofNat]
    omega
  rw [hb, place_fl]
  refine ⟨h1, h2, fun p hp => ?_⟩
  have := h3 _ hp
  rwa [fl_place] at this

theorem nxt_at (s : FVec Ideal S128x128 .f32) (p : Fin 16384) :
    (nxt s (place p) : EReal) = if p = bAt s then ⊥ else s (place p) := by
  have e : nxt s (place p) = Scalar.select (IntOp.cmpi .eq (k1_pay2 (place p)) (ixv s y0)) (FloatOps.ofBits (F := Ideal) .f32 0xFF800000#32) (s (place p)) := rfl
  rw [e, pay2_at, fl_place, (bAt_spec s).2.1]
  have hiff : IntOp.cmpi .eq (BitVec.ofNat 32 p.val) (BitVec.ofNat 32 (bAt s).val) = 1#1 ↔ p = bAt s := by
    rw [IntOp.cmpi_eq]
    refine ⟨fun h => Fin.ext ?_, fun h => by rw [h]⟩
    have h' := congrArg BitVec.toNat h
    have h1 := p.isLt
    have h2 := (bAt s).isLt
    rw [BitVec.toNat_ofNat, BitVec.toNat_ofNat] at h'
    omega
  by_cases h : p = bAt s
  · rw [if_pos h, hiff.2 h, select_one]; exact ofBits_bot
  · rw [if_neg h]
    rcases BitVec.eq_zero_or_eq_one (IntOp.cmpi .eq (BitVec.ofNat 32 p.val) (BitVec.ofNat 32 (bAt s).val)) with h0 | h1
    · rw [h0]; rfl
    · exact absurd (hiff.1 h1) h

/-! ## The accumulators -/

theorem lane_at (l n : ℕ) (hl : l < 128) (hn : n < 128) :
    IntOp.cmpi .eq (lane (ix2 (0 : Fin 1) (⟨l, hl⟩ : Fin 128))) (BitVec.ofNat 32 n) = if l = n then 1#1 else 0#1 := by
  have e : lane (ix2 (0 : Fin 1) (⟨l, hl⟩ : Fin 128)) = BitVec.ofNat 32 (0 * 128 + l) := rfl
  rw [e, Nat.zero_mul, Nat.zero_add]
  have hiff : IntOp.cmpi .eq (BitVec.ofNat 32 l) (BitVec.ofNat 32 n) = 1#1 ↔ l = n := by
    rw [IntOp.cmpi_eq]
    refine ⟨fun h => ?_, fun h => by rw [h]⟩
    have h' := congrArg BitVec.toNat h
    rw [BitVec.toNat_ofNat, BitVec.toNat_ofNat] at h'
    omega
  by_cases h : l = n
  · rw [if_pos h]; exact hiff.2 h
  · rw [if_neg h]
    rcases BitVec.eq_zero_or_eq_one (IntOp.cmpi .eq (BitVec.ofNat 32 l) (BitVec.ofNat 32 n)) with h0 | h1
    · exact h0
    · exact absurd (hiff.1 h1) h

theorem vAt_at (s : FVec Ideal S128x128 .f32) (l : ℕ) (hl : l < 128) : ∀ n, n ≤ 128 → l < n →
    vAt s n (ix2 (0 : Fin 1) (⟨l, hl⟩ : Fin 128)) = M (sAt s l)
  | 0, _, h => absurd h (Nat.not_lt_zero _)
  | n + 1, hn, h => by
    have e : vAt s (n + 1) (ix2 (0 : Fin 1) (⟨l, hl⟩ : Fin 128))
        = Scalar.select (IntOp.cmpi .eq (lane (ix2 (0 : Fin 1) (⟨l, hl⟩ : Fin 128))) (BitVec.ofNat 32 n)) (M (sAt s n))
            (vAt s n (ix2 (0 : Fin 1) (⟨l, hl⟩ : Fin 128))) := rfl
    rw [e, lane_at l n hl (by omega)]
    by_cases hln : l = n
    · subst hln; rw [if_pos rfl]; rfl
    · rw [if_neg hln]; exact vAt_at s l hl n (by omega) (by omega)

theorem iAt_at (s : FVec Ideal S128x128 .f32) (l : ℕ) (hl : l < 128) : ∀ n, n ≤ 128 → l < n →
    iAt s n (ix2 (0 : Fin 1) (⟨l, hl⟩ : Fin 128)) = ixv (sAt s l) y0
  | 0, _, h => absurd h (Nat.not_lt_zero _)
  | n + 1, hn, h => by
    have e : iAt s (n + 1) (ix2 (0 : Fin 1) (⟨l, hl⟩ : Fin 128))
        = Scalar.select (IntOp.cmpi .eq (lane (ix2 (0 : Fin 1) (⟨l, hl⟩ : Fin 128))) (BitVec.ofNat 32 n)) (ixv (sAt s n) y0)
            (iAt s n (ix2 (0 : Fin 1) (⟨l, hl⟩ : Fin 128))) := rfl
    rw [e, lane_at l n hl (by omega)]
    by_cases hln : l = n
    · subst hln; rw [if_pos rfl]; rfl
    · rw [if_neg hln]; exact iAt_at s l hl n (by omega) (by omega)

theorem out_at {α : Type} (v : S1x128.Idx → α) (j : S10.Idx) :
    shapeCast S10 (extractStridedSlice S1x10 ![0, 0] v slices_S1x128_o0_0_S1x10) shapeCasts_S1x10_S10 j
      = v (ix2 (0 : Fin 1) (⟨(j 0).val, lt_trans (j 0).isLt (by decide)⟩ : Fin 128)) := by
  rw [shapeCast_apply _ shapeCasts_S1x10_S10 j (ix2 (0 : Fin 1) (j 0)) (by
    rw [Shape.rowMajor_val_one, Shape.rowMajor_val_two]
    show 0 * 10 + (j 0).val = (j 0).val
    omega)]
  refine congrArg v (funext fun a => ?_)
  match a with
  | ⟨0, _⟩ => rfl
  | ⟨1, _⟩ => exact Fin.ext (Nat.zero_add _)

theorem topV_at (s : FVec Ideal S128x128 .f32) (j : S10.Idx) : topV s j = M (sAt s (j 0).val) :=
  (out_at (vAt s 10) j).trans (vAt_at s _ _ 10 (by decide) (j 0).isLt)
theorem topI_at (s : FVec Ideal S128x128 .f32) (j : S10.Idx) : topI s j = BitVec.ofNat 32 (bAt (sAt s (j 0).val)).val :=
  ((out_at (iAt s 10) j).trans (iAt_at s _ _ 10 (by decide) (j 0).isLt)).trans (bAt_spec _).2.1

/-! ## The rounds together -/

theorem cast_place (x : FVec Ideal S16384 .f32) (p : Fin 16384) :
    shapeCast S128x128 x shapeCasts_S16384_S128x128 (place p) = x (ValueIdx.ix1 p) := by
  refine shapeCast_apply _ _ _ _ ?_
  rw [Shape.rowMajor_val_one, Shape.rowMajor_val_two]
  exact (fl_place p).symm

/-- Where every score is above the least extended real, the body's results are the host's first ten. -/
theorem rounds_eq_topK (x : FVec Ideal S16384 .f32) (hx : ∀ i, (x i : EReal) ≠ ⊥)
    (h : S16384.Slices (fun _ => 0) S10) :
    topV (shapeCast S128x128 x shapeCasts_S16384_S128x128) = (Host.topK S10 0 (FloatOps.cmpfTotal (F := Ideal) .gt) x h).1
      ∧ topI (shapeCast S128x128 x shapeCasts_S16384_S128x128) = (Host.topK S10 0 (FloatOps.cmpfTotal (F := Ideal) .gt) x h).2 := by
  let s := shapeCast S128x128 x shapeCasts_S16384_S128x128
  let X : Fin 16384 → EReal := fun p => x (ValueIdx.ix1 p)
  let f : ℕ → Fin 16384 → EReal := fun n p => sAt s n (place p)
  let σ : ℕ → Fin 16384 := fun n => bAt (sAt s n)
  have h0 : ∀ p, f 0 p = X p := fun p => cast_place x p
  have hs : ∀ n p, f (n + 1) p = if p = σ n then ⊥ else f n p := fun n p => nxt_at (sAt s n) p
  have hv : ∀ n, f n (σ n) = M (sAt s n) := fun n => (bAt_spec _).1
  have hm : ∀ n p, f n p ≤ f n (σ n) := fun n p => by rw [hv]; exact (M_spec _).1 _
  have hl : ∀ n p, f n p = f n (σ n) → σ n ≤ p := fun n p e => (bAt_spec (sAt s n)).2.2 p (by rw [← hv]; exact e)
  have hX : ∀ p, X p ≠ ⊥ := fun p => hx _
  have hk : (10 : ℕ) ≤ 16384 := by decide
  have hsf := fun i : Fin 10 => sortedFrom_rounds X f σ hX h0 hs hm hl 10 hk i
  constructor
  · funext j
    refine (topV_at s j).trans ?_
    refine Eq.trans ?_ ((topK_at hk x h j).1).symm
    refine Eq.trans ?_ (congrArg (fun q => x (ValueIdx.ix1 q)) (hsf (j 0))).symm
    exact (hv _).symm.trans (round X f σ hX h0 hs hm hl (j 0).val (lt_trans (j 0).isLt (by decide))).2.1
  · funext j
    refine (topI_at s j).trans ?_
    refine Eq.trans ?_ ((topK_at hk x h j).2).symm
    exact (congrArg (fun q : Fin 16384 => BitVec.ofNat 32 q.val) (hsf (j 0))).symm

end Cert.Proof.Sc
-- ==== Proof.Algebraic.lean ====
/-
  The value claim: at exact arithmetic the kernel's two results are the reference's, its first ten scores and their
  documents.
-/
module

public import proofs.«01_k».proof.Proof.Frames
public import proofs.«01_k».proof.Proof.RefScores
public import proofs.«01_k».proof.Proof.Rounds

@[expose] public section

set_option maxRecDepth 65536

noncomputable section

namespace Cert.Proof

open Idealize.ShloMosaic Idealize.SL.Sem Cert.Proof.Sc

/-! ## The scores -/

section
variable (a0 : IVec Cert.KernelIdeal.S1x128 32) (a1 : FVec Ideal Cert.KernelIdeal.S1x128 .f32) (a2 : IVec Cert.ReferenceIdeal.S16385 32)
  (a3 : IVec Cert.KernelIdeal.S2686976 32) (a4 : FVec Ideal Cert.KernelIdeal.S2686976 .f32)

/-- The query's places and values, unrolled from the one row. -/
def qI0 : IVec Cert.KernelIdeal.S128 32 := shapeCast Cert.KernelIdeal.S128 a0 Cert.KernelIdeal.Gen.shapeCasts_S1x128_S128
def qV0 : FVec Ideal Cert.KernelIdeal.S128 .f32 := shapeCast Cert.KernelIdeal.S128 a1 Cert.KernelIdeal.Gen.shapeCasts_S1x128_S128

/-- The kernel's scores. -/
def kScores : FVec Ideal Cert.KernelIdeal.S16384 .f32 := fun i => docScore (F := Ideal) (qTab (F := Ideal) (qI0 a0) (qV0 a1) 128) a3 a4 (i 0).val

theorem kScores_eq (h0 : ∀ j, (a0 j).toNat < 16384) (h3 : ∀ j, (a3 j).toNat < 16384)
    (h2 : ∀ j, a2 j = BitVec.ofNat 32 (j 0).val * 164#32) : kScores a0 a1 a3 a4 = Ref.scores a0 a1 a2 a3 a4 := by
  funext i
  have e1 := docScore_eq (qI0 a0) (qV0 a1) a3 a4 h3 (i 0).val
  have e2 := Ref.scores_at a0 a1 a2 a3 a4 h0 h3 h2 i
  exact e1.trans e2.symm

theorem kScores_ne_bot (h3 : ∀ j, (a3 j).toNat < 16384) (h1 : ∀ j, (a1 j : EReal) ≠ ⊥ ∧ (a1 j : EReal) ≠ ⊤)
    (h4 : ∀ j, (a4 j : EReal) ≠ ⊥ ∧ (a4 j : EReal) ≠ ⊤) (i : Cert.KernelIdeal.S16384.Idx) : (kScores a0 a1 a3 a4 i : EReal) ≠ ⊥ := by
  have e1 : (kScores a0 a1 a3 a4 i : EReal) = _ := docScore_eq (qI0 a0) (qV0 a1) a3 a4 h3 (i 0).val
  rw [e1]
  exact (dS_fin _ _ _ _ _ (fun k => h1 _) (fun p => h4 _)).1

end

/-! ## The claim -/

section
variable (m : (ℓ : Loc Cert.KernelIdeal.nD Cert.KernelIdeal.τ Cert.KernelIdeal.sig) → Buf (Elt Ideal) ℓ) (d : Dev Cert.KernelIdeal.nD)

/-- The kernel's scores of a launch. -/
def kSc : FVec Ideal Cert.KernelIdeal.S16384 .f32 :=
  kScores (m ((d.tc : Thread Cert.KernelIdeal.nD Cert.KernelIdeal.τ).loc Cert.KernelIdeal.main_arg0))
    (m ((d.tc : Thread Cert.KernelIdeal.nD Cert.KernelIdeal.τ).loc Cert.KernelIdeal.main_arg1))
    (m ((d.tc : Thread Cert.KernelIdeal.nD Cert.KernelIdeal.τ).loc Cert.KernelIdeal.main_arg3))
    (m ((d.tc : Thread Cert.KernelIdeal.nD Cert.KernelIdeal.τ).loc Cert.KernelIdeal.main_arg4))

theorem G_eq : G (F := Ideal) m d = kSc m d := rfl

theorem pay1_eq : Cert.KernelIdeal.Gen.k1_pay1 (V4 (F := Ideal) m d (dr Cert.KernelIdeal.main_v3)) = shapeCast Cert.KernelIdeal.S128x128 (kSc m d) Cert.KernelIdeal.Gen.shapeCasts_S16384_S128x128 := by
  rw [V4_v3, ← G_eq]
  exact shapeCast_self _ _

variable (m' : (ℓ : Loc Cert.ReferenceIdeal.nD Cert.ReferenceIdeal.τ Cert.ReferenceIdeal.sig) → Buf (Elt Ideal) ℓ)

/-- The reference's scores of a launch. -/
def rSc : FVec Ideal Cert.ReferenceIdeal.S16384 .f32 :=
  Ref.scores (m' ((d.tc : Thread Cert.ReferenceIdeal.nD Cert.ReferenceIdeal.τ).loc Cert.ReferenceIdeal.main_arg0))
    (m' ((d.tc : Thread Cert.ReferenceIdeal.nD Cert.ReferenceIdeal.τ).loc Cert.ReferenceIdeal.main_arg1))
    (m' ((d.tc : Thread Cert.ReferenceIdeal.nD Cert.ReferenceIdeal.τ).loc Cert.ReferenceIdeal.main_arg2))
    (m' ((d.tc : Thread Cert.ReferenceIdeal.nD Cert.ReferenceIdeal.τ).loc Cert.ReferenceIdeal.main_arg3))
    (m' ((d.tc : Thread Cert.ReferenceIdeal.nD Cert.ReferenceIdeal.τ).loc Cert.ReferenceIdeal.main_arg4))

/-- The reference's first ten. -/
def rTop := Host.topK Cert.ReferenceIdeal.S10 0 (FloatOps.cmpfTotal (F := Ideal) .gt) (rSc d m') Cert.ReferenceIdeal.Gen.sliceFits_S16384_S10

theorem ref_run (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_values) = (rTop c m').1
      ∧ r.2.mem ((c.tc : Thread Cert.ReferenceIdeal.nD Cert.ReferenceIdeal.τ).loc Cert.ReferenceIdeal.main_indices) = (rTop c m').2
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  Cert.ReferenceIdeal.Value.run (F := Ideal) m' ρ

end

theorem algebraic_valid : Cert.algebraic_KernelIdeal_ReferenceIdeal_pre_valid := by
  intro m g m' g' hpre hargs
  have hv := fun d => valid_spec _ _ _ _ _ (hpre d)
  have hsc : ∀ d, kSc m d = rSc d m' := fun d => by
    obtain ⟨e0, e1, e2, e3, e4⟩ := hargs d
    unfold rSc
    rw [e0, e1, e2, e3, e4]
    exact kScores_eq _ _ _ _ _ (hv d).1.1 (hv d).1.2 (hv d).2.1
  have hnb : ∀ d i, (kSc m d i : EReal) ≠ ⊥ := fun d i => kScores_ne_bot _ _ _ _ (hv d).1.2 (hv d).2.2.1 (hv d).2.2.2 i
  have htop : ∀ d, topV (F := Ideal) (Cert.KernelIdeal.Gen.k1_pay1 (V4 (F := Ideal) m d (dr Cert.KernelIdeal.main_v3))) = (rTop d m').1
      ∧ topI (F := Ideal) (Cert.KernelIdeal.Gen.k1_pay1 (V4 (F := Ideal) m d (dr Cert.KernelIdeal.main_v3))) = (rTop d m').2 := fun d => by
    rw [pay1_eq]
    unfold rTop
    rw [← hsc d]
    exact rounds_eq_topK (kSc m d) (hnb d) _
  refine ⟨fun d => (rTop d m').1, fun d => (rTop d m').2, ?_, ref_run m' g'⟩
  refine (θ_run (Cert.KernelIdeal.defs (F := Ideal)) (Cert.KernelIdeal.threads (F := Ideal)) ⟨m, fun _ => 0, g⟩).mono ?_
    (run_main (F := Ideal) m g ⟨fun d => (hv d).1.1, fun d => (hv d).1.2⟩)
  intro r h c
  exact ⟨((h.1 c (dr Cert.KernelIdeal.main_v4_0) (by decide)).trans (V5_t m c)).trans (htop c).1,
    ((h.1 c (dr Cert.KernelIdeal.main_v4_1) (by decide)).trans (V5_u m c)).trans (htop c).2, args_of_QC h c⟩

end Cert.Proof

end
-- ==== Proof.lean ====
/- The claims: the frames of the kernel, of its idealization and of the reference (Proof/Frames.lean), that the
   idealization is the program itself, and that the kernel's results are the reference's (Proof/Algebraic.lean). -/
module

public import proofs.«01_k».proof.Defs
public import proofs.«01_k».proof.Proof.Algebraic
public import proofs.«01_k».proof.Proof.Gen.Pre_valid

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    Cert.Pre_valid.Gen.facts, frame_kernel, frame_ideal, frame_ideal_valid, frame_reference, frame_reference_valid, trivial,
    algebraic_valid⟩

end Cert.Proof

end
